-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096 : Shape := ⟨2, ![16, 4096]⟩
abbrev S16x16 : Shape := ⟨2, ![16, 16]⟩
abbrev S4096 : Shape := ⟨1, ![4096]⟩
abbrev S16 : Shape := ⟨1, ![16]⟩
abbrev S_ : Shape := ⟨0, ![]⟩
abbrev S1x4096 : Shape := ⟨2, ![1, 4096]⟩
abbrev S1x16 : Shape := ⟨2, ![1, 16]⟩
abbrev S16x1 : Shape := ⟨2, ![16, 1]⟩

abbrev nBuf : Table → Nat
  | .hbm => 5
  | .local .scVector .vmem => 3
  | _ => 0

abbrev bufTy : (tb : Table) → Fin (nBuf tb) → BufTy
  | .hbm, ⟨0, _⟩ => ⟨S16x4096, .i32⟩
  | .hbm, ⟨1, _⟩ => ⟨S16x4096, .i32⟩
  | .hbm, ⟨2, _⟩ => ⟨S16x16, .i32⟩
  | .hbm, ⟨3, _⟩ => ⟨S16x1, .i32⟩
  | .hbm, ⟨4, _⟩ => ⟨S16, .i32⟩
  | .local .scVector .vmem, ⟨0, _⟩ => ⟨S4096, .i32⟩
  | .local .scVector .vmem, ⟨1, _⟩ => ⟨S4096, .i32⟩
  | .local .scVector .vmem, ⟨2, _⟩ => ⟨S16, .i32⟩
  | _, _ => ⟨S16x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r0 : BitVec 32 := 0#32
  ![v1.toNat, 0]
@[reducible] def k0_t1_loop : Scf.Loop 32 :=
  let c0_i32_2 : BitVec 32 := 0#32
  let c256_i32 : BitVec 32 := 256#32
  let v8 : BitVec 32 := Scalar.addi c0_i32_2 c256_i32
  let c1_i32_3 : BitVec 32 := 1#32
  ⟨c0_i32_2, v8, c1_i32_3⟩
def k0_off2 (k0_t1 : Fin k0_t1_loop.trips) : Fin 1 → Nat :=
  let c0_i32_2 : BitVec 32 := 0#32
  let c1_i32_3 : BitVec 32 := 1#32
  let arg8 : BitVec 32 := Scf.iv c0_i32_2 c1_i32_3 k0_t1
  let c16_i32_6 : BitVec 32 := 16#32
  let v14 : BitVec 32 := Scalar.muli arg8 c16_i32_6
  let v15 : Index := Scalar.indexCast v14
  ![v15.toNat]

def k0_chk1 (i : grid0.Coords) (v30 : IVec S16 32) : Prop :=
  (∀ (k0_h1 : k0_cond1 i = 1#1), ∀ a x, ((![v30] : Fin 1 → IVec S16 32) a x).toNat < S4096.size a)
theorem k0_idx1_inb : ∀ (i : grid0.Coords) (v30 : IVec S16 32) (k0_hw1 : k0_chk1 i v30), ∀ (k0_h1 : k0_cond1 i = 1#1), ∀ a x, ((![v30] : Fin 1 → IVec S16 32) a x).toNat < S4096.size a := fun i v30 k0_hw1 k0_h1 => k0_hw1 k0_h1
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩
abbrev S16 : Shape := ⟨1, ![16]⟩
abbrev S4096 : Shape := ⟨1, ![4096]⟩
abbrev S1x4096 : Shape := ⟨2, ![1, 4096]⟩
abbrev S16x1 : Shape := ⟨2, ![16, 1]⟩

abbrev nBuf : Space → Nat
  | .hbm => 48
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S_, .i32⟩
  | .hbm, ⟨2, _⟩ => ⟨S16x4096, .i32⟩
  | .hbm, ⟨3, _⟩ => ⟨S16x4096, .i1⟩
  | .hbm, ⟨4, _⟩ => ⟨S_, .i32⟩
  | .hbm, ⟨5, _⟩ => ⟨S16x4096, .i32⟩
  | .hbm, ⟨6, _⟩ => ⟨S16x4096, .i32⟩
  | .hbm, ⟨7, _⟩ => ⟨S_, .i32⟩
  | .hbm, ⟨8, _⟩ => ⟨S16x4096, .i32⟩
  | .hbm, ⟨9, _⟩ => ⟨S16x4096, .i1⟩
  | .hbm, ⟨10, _⟩ => ⟨S16x4096, .i1⟩
  | .hbm, ⟨11, _⟩ => ⟨S16x4096, .i32⟩
  | .hbm, ⟨12, _⟩ => ⟨S16x4096, .i1⟩
  | .hbm, ⟨13, _⟩ => ⟨S16x4096, .i32⟩
  | .hbm, ⟨14, _⟩ => ⟨S_, .i32⟩
  | .hbm, ⟨15, _⟩ => ⟨S16x4096, .i32⟩
  | .hbm, ⟨16, _⟩ => ⟨S16x4096, .i1⟩
  | .hbm, ⟨17, _⟩ => ⟨S_, .i32⟩
  | .hbm, ⟨18, _⟩ => ⟨S16x4096, .i32⟩
  | .hbm, ⟨19, _⟩ => ⟨S16x4096, .i32⟩
  | .hbm, ⟨20, _⟩ => ⟨S16x4096, .i32⟩
  | .hbm, ⟨21, _⟩ => ⟨S16x4096x1, .i32⟩
  | .hbm, ⟨22, _⟩ => ⟨S1, .i32⟩
  | .hbm, ⟨23, _⟩ => ⟨S_, .i32⟩
  | .hbm, ⟨24, _⟩ => ⟨S16x4096x1, .i32⟩
  | .hbm, ⟨25, _⟩ => ⟨S16x4096x1, .i1⟩
  | .hbm, ⟨26, _⟩ => ⟨S1x1x1, .i32⟩
  | .hbm, ⟨27, _⟩ => ⟨S16x4096x1, .i32⟩
  | .hbm, ⟨28, _⟩ => ⟨S16x4096x1, .i1⟩
  | .hbm, ⟨29, _⟩ => ⟨S16x4096x1, .i1⟩
  | .hbm, ⟨30, _⟩ => ⟨S_, .i1⟩
  | .hbm, ⟨31, _⟩ => ⟨S16x4096, .i1⟩
  | .hbm, ⟨32, _⟩ => ⟨S16x4096, .i32⟩
  | .hbm, ⟨33, _⟩ => ⟨S_, .i32⟩
  | .hbm, ⟨34, _⟩ => ⟨S16x4096, .i32⟩
  | .hbm, ⟨35, _⟩ => ⟨S16x4096, .i32⟩
  | .hbm, ⟨36, _⟩ => ⟨S16x4096, .i32⟩
  | .hbm, ⟨37, _⟩ => ⟨S_, .i32⟩
  | .hbm, ⟨38, _⟩ => ⟨S16, .i32⟩
  | .hbm, ⟨39, _⟩ => ⟨S4096, .i32⟩
  | .hbm, ⟨40, _⟩ => ⟨S1x4096, .i32⟩
  | .hbm, ⟨41, _⟩ => ⟨S16x1, .i32⟩
  | .hbm, ⟨42, _⟩ => ⟨S16x4096, .i32⟩
  | .hbm, ⟨43, _⟩ => ⟨S16x4096, .i32⟩
  | .hbm, ⟨44, _⟩ => ⟨S16x4096, .i1⟩
  | .hbm, ⟨45, _⟩ => ⟨S_, .i32⟩
  | .hbm, ⟨46, _⟩ => ⟨S16x4096, .i32⟩
  | .hbm, ⟨47, _⟩ => ⟨S16x4096, .i32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_call0_v0 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_v1_0 : Ref sig .tc := ⟨.hbm, 12, rfl⟩
abbrev main_v6 : Ref sig .tc := ⟨.hbm, 13, rfl⟩
abbrev main_call2_c : Ref sig .tc := ⟨.hbm, 14, rfl⟩
abbrev main_call2_v0 : Ref sig .tc := ⟨.hbm, 15, rfl⟩
abbrev main_call2_v1 : Ref sig .tc := ⟨.hbm, 16, rfl⟩
abbrev main_call2_c_0 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_c_1 : Ref sig .tc := ⟨.hbm, 22, rfl⟩
abbrev main_call2_c_2 : Ref sig .tc := ⟨.hbm, 23, rfl⟩
abbrev main_call2_v6 : Ref sig .tc := ⟨.hbm, 24, rfl⟩
abbrev main_call2_v7 : Ref sig .tc := ⟨.hbm, 25, rfl⟩
abbrev main_call2_v8 : Ref sig .tc := ⟨.hbm, 26, rfl⟩
abbrev main_call2_v9 : Ref sig .tc := ⟨.hbm, 27, rfl⟩
abbrev main_call2_v10 : Ref sig .tc := ⟨.hbm, 28, rfl⟩
abbrev main_call2_v11 : Ref sig .tc := ⟨.hbm, 29, rfl⟩
abbrev main_call2_c_3 : Ref sig .tc := ⟨.hbm, 30, rfl⟩
abbrev main_call2_v12 : Ref sig .tc := ⟨.hbm, 31, rfl⟩
abbrev main_call2_v13 : Ref sig .tc := ⟨.hbm, 32, rfl⟩
abbrev main_call2_c_4 : Ref sig .tc := ⟨.hbm, 33, rfl⟩
abbrev main_call2_v14 : Ref sig .tc := ⟨.hbm, 34, rfl⟩
abbrev main_v7 : Ref sig .tc := ⟨.hbm, 35, rfl⟩
abbrev main_v8 : Ref sig .tc := ⟨.hbm, 36, rfl⟩
abbrev main_c_2 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_3 : Ref sig .tc := ⟨.hbm, 45, rfl⟩
abbrev main_call3_v0 : Ref sig .tc := ⟨.hbm, 46, rfl⟩
abbrev main_v16 : Ref sig .tc := ⟨.hbm, 47, rfl⟩

abbrev nD : Nat := 1
abbrev τ : Topo := Topo.v7x

variable {F : FTy → Type} [FloatOps F]
-- ==== Proof.Pack.lean ====
/- The mathematics of packing a row: how many valid tokens stand before a position, the row the
   valid tokens pack into, and what one chunk of sixteen tokens does to a partly packed row. -/
module

public import Mathlib.Data.Nat.Count

@[expose] public section

namespace Cert.Proof.Pack

/-- A token is valid when, read as a signed word, it lies in `[0, 100000)`. -/
def Valid (w : BitVec 32) : Prop := 0 ≤ w.toInt ∧ w.toInt < 100000

/-- Whether a token is valid can be decided. -/
instance (w : BitVec 32) : Decidable (Valid w) := by unfold Valid; infer_instance

/-- How many of the tokens at positions below `n` are valid. -/
abbrev rank (x : ℕ → BitVec 32) (n : ℕ) : ℕ := Nat.count (fun k => Valid (x k)) n

/-- At most as many valid tokens as tokens. -/
theorem rank_le (x : ℕ → BitVec 32) (n : ℕ) : rank x n ≤ n := Nat.count_le _

/-- Two valid tokens with the same rank stand at the same position. -/
theorem rank_inj (x : ℕ → BitVec 32) {a b : ℕ} (ha : Valid (x a)) (hb : Valid (x b))
    (h : rank x a = rank x b) : a = b := Nat.count_injective (p := fun k => Valid (x k)) ha hb h

/-- Every number below the rank of `n` is the rank of a valid position below `n`. -/
theorem exists_rank (x : ℕ → BitVec 32) {n j : ℕ} (h : j < rank x n) :
    ∃ k, k < n ∧ Valid (x k) ∧ rank x k = j := by
  induction n with
  | zero => simp [rank] at h
  | succ n ih =>
    rw [rank, Nat.count_succ] at h
    rcases Nat.lt_or_ge j (rank x n) with hlt | hge
    · obtain ⟨k, hk, hv⟩ := ih hlt
      exact ⟨k, by omega, hv⟩
    · by_cases hv : Valid (x n)
      · rw [if_pos hv] at h
        exact ⟨n, by omega, hv, by unfold rank at hge ⊢; omega⟩
      · rw [if_neg hv] at h
        unfold rank at hge; omega

open Classical in
/-- The packed row: at place `j` the valid token of rank `j` among the row's 4096 tokens while there is
    one, then `-1`. -/
noncomputable def packed (x : ℕ → BitVec 32) (j : ℕ) : BitVec 32 :=
  if h : ∃ k, k < 4096 ∧ Valid (x k) ∧ rank x k = j then x h.choose else 4294967295#32

/-- The packed row holds each valid token at its rank. -/
theorem packed_rank (x : ℕ → BitVec 32) {k : ℕ} (hk : k < 4096) (hv : Valid (x k)) :
    packed x (rank x k) = x k := by
  have h : ∃ k', k' < 4096 ∧ Valid (x k') ∧ rank x k' = rank x k := ⟨k, hk, hv, rfl⟩
  rw [packed, dif_pos h]
  exact congrArg x (rank_inj x h.choose_spec.2.1 hv h.choose_spec.2.2)

/-- The packed row holds `-1` from the number of valid tokens on. -/
theorem packed_ge (x : ℕ → BitVec 32) {j : ℕ} (hj : rank x 4096 ≤ j) : packed x j = 4294967295#32 := by
  rw [packed, dif_neg]
  rintro ⟨k, hk, hv, rfl⟩
  exact absurd (Nat.count_strict_mono (p := fun k => Valid (x k)) hv hk) (by unfold rank at hj; omega)

/-- A row `out` packed as far as position `n` of the tokens `x`: every valid token below `n` stands at
    its rank, and between the valid tokens' count and `n` stands `-1`. -/
structure Done (x : ℕ → BitVec 32) (n : ℕ) (out : ℕ → BitVec 32) : Prop where
  /-- every valid token stands at its rank -/
  front : ∀ k < n, Valid (x k) → out (rank x k) = x k
  /-- the rest of the first `n` places hold `-1` -/
  fill : ∀ j, rank x n ≤ j → j < n → out j = 4294967295#32

/-- Before the first token nothing is asked of the row. -/
theorem Done.zero (x out : ℕ → BitVec 32) : Done x 0 out := ⟨fun _ h => absurd h (by omega), fun _ _ h => absurd h (by omega)⟩

/-- One chunk of sixteen tokens: where the new row holds each valid token of the chunk at its rank, and
    elsewhere holds `-1` on the chunk's own sixteen places and the old row off them, it is packed
    sixteen tokens further. -/
theorem Done.step {x out out' : ℕ → BitVec 32} {n : ℕ} (h : Done x n out) (hn : n + 16 ≤ 4096)
    (hhit : ∀ l < 16, Valid (x (n + l)) → out' (rank x (n + l)) = x (n + l))
    (hmiss : ∀ j < 4096, (∀ l < 16, Valid (x (n + l)) → rank x (n + l) ≠ j) →
      out' j = if n ≤ j ∧ j < n + 16 then 4294967295#32 else out j) :
    Done x (n + 16) out' := by
  have mono : ∀ {a b}, a ≤ b → rank x a ≤ rank x b := fun hab => Nat.count_monotone _ hab
  refine ⟨fun k hk hv => ?_, fun j h1 h2 => ?_⟩
  · rcases Nat.lt_or_ge k n with hlt | hge
    · have hkj : rank x k < rank x n := Nat.count_strict_mono hv hlt
      have hrn := rank_le x n
      rw [hmiss (rank x k) (by omega) (fun l _ _ he => by
        have := mono (show n ≤ n + l by omega); omega), if_neg (by omega)]
      exact h.front k hlt hv
    · obtain ⟨l, rfl⟩ := Nat.exists_eq_add_of_le hge
      exact hhit l (by omega) hv
  · rw [hmiss j (by omega) (fun l hl hv he => by
      have : rank x (n + l) < rank x (n + 16) := Nat.count_strict_mono hv (by omega)
      omega)]
    split
    · rfl
    · have := mono (show n ≤ n + 16 by omega)
      exact h.fill j (by omega) (by omega)

/-- A row packed as far as its end is the packed row. -/
theorem Done.eq_packed {x out : ℕ → BitVec 32} (h : Done x 4096 out) {j : ℕ} (hj : j < 4096) :
    out j = packed x j := by
  rcases Nat.lt_or_ge j (rank x 4096) with hlt | hge
  · obtain ⟨k, hk, hv, rfl⟩ := exists_rank x hlt
    rw [packed_rank x hk hv]
    exact h.front k hk hv
  · rw [packed_ge x hge]
    exact h.fill j hge hj

end Cert.Proof.Pack

end
-- ==== Proof.Lanes.lean ====
/- What one chunk of sixteen lanes computes: the mask of valid tokens, their running count, the place
   each is sent to, and the row after the masked scatter. -/
module

public import proofs.«01_k».proof.Proof.Pack
public import Idealize.ShloMosaic.PureOps.ShapeOps

@[expose] public section

namespace Cert.Proof.Pack

open Idealize.ShloMosaic

/-- The shape of one chunk: sixteen lanes. -/
abbrev Chunk : Shape := ⟨1, ![16]⟩
/-- The shape of one row: 4096 tokens. -/
abbrev Row : Shape := ⟨1, ![4096]⟩

/-- Lane `l` of a chunk. -/
abbrev lane (l : Fin 16) : Chunk.Idx := Shape.ofLane (d := ![16]) l
/-- Place `j` of a row. -/
abbrev place (j : Fin 4096) : Row.Idx := Shape.ofLane (d := ![4096]) j

/-- Every lane index is the lane its one coordinate names. -/
theorem eq_lane (i : Chunk.Idx) : i = lane (i 0) := by
  funext a; obtain rfl := Fin.eq_zero a; rfl

/-- Every row index is the place its one coordinate names. -/
theorem eq_place (i : Row.Idx) : i = place (i 0) := by
  funext a; obtain rfl := Fin.eq_zero a; rfl

/-- A row's words read by number; past its end, `-1`. -/
def rowFn (v : IVec Row 32) (k : ℕ) : BitVec 32 :=
  if h : k < 4096 then v (place ⟨k, h⟩) else 4294967295#32

/-- Inside the row, the word of number `k` is the one at place `k`. -/
theorem rowFn_lt (v : IVec Row 32) {k : ℕ} (h : k < 4096) : rowFn v k = v (place ⟨k, h⟩) := dif_pos h

/-! ## The mask and the running count -/

/-- The lanes holding valid tokens. -/
def maskV (v : IVec Chunk 32) : IVec Chunk 1 :=
  andi (cmpi .sge v (broadcast Chunk 0#32)) (cmpi .slt v (broadcast Chunk 100000#32))
/-- The same as words, `1` or `0`. -/
def bitV (v : IVec Chunk 32) : IVec Chunk 32 := select (maskV v) (broadcast Chunk 1#32) (broadcast Chunk 0#32)
/-- The place each lane's token is sent to from the offset `a`: the offset and the valid lanes before it. -/
def idxV (a : BitVec 32) (v : IVec Chunk 32) : IVec Chunk 32 :=
  addi (broadcast Chunk a) (subi (scan .sum (bitV v)) (bitV v))

/-- A word passes the two comparisons exactly if it is valid. -/
theorem mask_bit (w : BitVec 32) :
    IntOp.andi (IntOp.cmpi .sge w 0#32) (IntOp.cmpi .slt w 100000#32) = if Valid w then 1#1 else 0#1 := by
  have h1 : (0#32 : BitVec 32).toInt = 0 := by decide
  have h2 : (100000#32 : BitVec 32).toInt = 100000 := by decide
  simp only [IntOp.andi, IntOp.cmpi, BitVec.sle, BitVec.slt, h1, h2, Valid]
  by_cases ha : (0 : ℤ) ≤ w.toInt <;> by_cases hb : w.toInt < 100000 <;> simp [ha, hb]

/-- A lane's mask bit is 1 exactly if its token is valid. -/
theorem maskV_apply (v : IVec Chunk 32) (i : Chunk.Idx) : maskV v i = if Valid (v i) then 1#1 else 0#1 :=
  mask_bit (v i)

/-- The same bit as a word. -/
theorem bitV_apply (v : IVec Chunk 32) (i : Chunk.Idx) : bitV v i = BitVec.ofNat 32 (if Valid (v i) then 1 else 0) := by
  show Scalar.select (maskV v i) 1#32 0#32 = _
  rw [maskV_apply]
  split <;> rfl

/-- Over sixteen lanes the running sum at a later lane is the one at the lane before and that lane's word. -/
theorem scan_succ (u : IVec Chunk 32) (j : ℕ) (hj : j + 1 < 16) :
    scan .sum u (lane ⟨j + 1, hj⟩) = IntOp.addi (scan .sum u (lane ⟨j, by omega⟩)) (u (lane ⟨j + 1, hj⟩)) := by
  have h : ∀ j : Fin 15, (List.finRange 16).filter (fun k => decide (0 < k.val ∧ k.val ≤ j.val + 1))
      = (List.finRange 16).filter (fun k => decide (0 < k.val ∧ k.val ≤ j.val)) ++ [j.succ] := by decide
  have hh := h ⟨j, by omega⟩
  show ((List.finRange 16).filter fun k => decide (0 < k.val ∧ k.val ≤ j + 1)).foldl
    (fun r k => IntOp.addi r (u (lane k))) (u (lane 0)) = IntOp.addi (((List.finRange 16).filter fun k =>
      decide (0 < k.val ∧ k.val ≤ j)).foldl (fun r k => IntOp.addi r (u (lane k))) (u (lane 0))) _
  rw [hh, List.foldl_append]
  rfl

/-- Over sixteen lanes the running sum at lane zero is that lane's word. -/
theorem scan_zero (u : IVec Chunk 32) : scan .sum u (lane 0) = u (lane 0) := rfl

section chunk
variable {x : ℕ → BitVec 32} {n : ℕ} {v : IVec Chunk 32} (hv : ∀ l : Fin 16, v (lane l) = x (n + l.val))
include hv

/-- The running count at a lane: the valid tokens from the chunk's start to that lane, that lane's own included. -/
theorem scan_bitV (j : ℕ) (hj : j < 16) :
    BitVec.ofNat 32 (rank x n) + scan .sum (bitV v) (lane ⟨j, hj⟩) = BitVec.ofNat 32 (rank x (n + j + 1)) := by
  have step : ∀ m, BitVec.ofNat 32 (rank x m) + BitVec.ofNat 32 (if Valid (x m) then 1 else 0)
      = BitVec.ofNat 32 (rank x (m + 1)) := fun m => by
    rw [rank, rank, Nat.count_succ, BitVec.ofNat_add]
  induction j with
  | zero =>
    have h0 := hv 0
    rw [show (⟨0, hj⟩ : Fin 16) = 0 from rfl, scan_zero, bitV_apply, h0]
    exact step n
  | succ j ih =>
    rw [scan_succ _ _ hj, bitV_apply, hv]
    have hi := ih (by omega)
    simp only [IntOp.addi] at hi ⊢
    rw [← BitVec.add_assoc, hi]
    exact step (n + j + 1)

/-- Each lane is sent to its token's rank. -/
theorem idxV_lane (j : ℕ) (hj : j < 16) :
    idxV (BitVec.ofNat 32 (rank x n)) v (lane ⟨j, hj⟩) = BitVec.ofNat 32 (rank x (n + j)) := by
  show BitVec.ofNat 32 (rank x n) + (scan .sum (bitV v) (lane ⟨j, hj⟩) - bitV v (lane ⟨j, hj⟩)) = _
  rw [BitVec.sub_eq_add_neg, ← BitVec.add_assoc, scan_bitV hv j hj, bitV_apply, hv, ← BitVec.sub_eq_add_neg,
    rank, Nat.count_succ, BitVec.ofNat_add, BitVec.add_sub_cancel]

/-- The offset after the chunk: the rank of the next chunk's first token. -/
theorem next_off :
    BitVec.ofNat 32 (rank x n) + scan .sum (bitV v) (lane 15) = BitVec.ofNat 32 (rank x (n + 16)) :=
  scan_bitV hv 15 (by omega)

/-- The place a lane is sent to, as a number. -/
theorem idxV_toNat (hn : n + 16 ≤ 4096) (l : Fin 16) :
    (idxV (BitVec.ofNat 32 (rank x n)) v (lane l)).toNat = rank x (n + l.val) := by
  rw [show l = ⟨l.val, l.isLt⟩ from rfl, idxV_lane hv l.val l.isLt, BitVec.toNat_ofNat]
  have := rank_le x (n + l.val)
  exact Nat.mod_eq_of_lt (by omega)

/-- Every lane, masked or not, is sent inside the row. -/
theorem idxV_lt (hn : n + 16 ≤ 4096) (i : Chunk.Idx) :
    (idxV (BitVec.ofNat 32 (rank x n)) v i).toNat < 4096 := by
  obtain ⟨l, rfl⟩ : ∃ l, i = lane l := ⟨_, eq_lane i⟩
  rw [idxV_toNat hv hn]
  have := rank_le x (n + l.val)
  have := l.isLt
  omega

end chunk

/-! ## The masked scatter -/

variable {F : FTy → Type} [FloatOps F]

/-- One lane's turn of a scatter that replaces. -/
def turn (idx : IVec Chunk 32) (v : IVec Chunk 32) (mask : IVec Chunk 1) (g : IVec Row 32) (k : Fin 16) : IVec Row 32 :=
  if mask (lane k) = 1 then fun j => if (j 0).val = (idx (lane k)).toNat then v (lane k) else g j else g

/-- A replacing scatter is its lanes' turns in ascending order. -/
theorem storeIdx_eq (f : Vec F Row .i32) (idx v : IVec Chunk 32) (mask : IVec Chunk 1) (h) :
    storeIdx (F := F) (s := Row) (e := .i32) (d := ![16]) f ![idx] v mask false h
      = (List.finRange 16).foldl (turn idx v mask) f := by
  refine congrArg (fun φ => (List.finRange 16).foldl φ f) ?_
  funext g k
  unfold turn
  show (if mask (lane k) = 1 then _ else g) = _
  split
  · funext j
    refine if_congr ?_ rfl rfl
    exact Fin.forall_fin_one
  · rfl

/-- A place no set lane of the list names keeps its word. -/
theorem turns_miss (idx v : IVec Chunk 32) (mask : IVec Chunk 1) (l : List (Fin 16)) (g : IVec Row 32) (j : Row.Idx)
    (h : ∀ k ∈ l, mask (lane k) = 1 → (j 0).val ≠ (idx (lane k)).toNat) : l.foldl (turn idx v mask) g j = g j := by
  induction l generalizing g with
  | nil => rfl
  | cons k l ih =>
    rw [List.foldl_cons, ih _ fun k' hk' => h k' (List.mem_cons_of_mem _ hk')]
    unfold turn
    split
    · next hm => exact if_neg (h k List.mem_cons_self hm)
    · rfl

/-- A place exactly one set lane of the list names holds that lane's word. -/
theorem turns_hit (idx v : IVec Chunk 32) (mask : IVec Chunk 1) (l : List (Fin 16)) (g : IVec Row 32) (j : Row.Idx)
    (k : Fin 16) (hk : k ∈ l) (hm : mask (lane k) = 1) (hj : (j 0).val = (idx (lane k)).toNat)
    (h : ∀ k' ∈ l, mask (lane k') = 1 → (j 0).val = (idx (lane k')).toNat → k' = k) :
    l.foldl (turn idx v mask) g j = v (lane k) := by
  induction l using List.reverseRecOn with
  | nil => simp at hk
  | append_singleton l k' ih =>
    rw [List.foldl_append]
    show turn idx v mask (l.foldl (turn idx v mask) g) k' j = _
    unfold turn
    by_cases hc : mask (lane k') = 1 ∧ (j 0).val = (idx (lane k')).toNat
    · rw [if_pos hc.1, if_pos hc.2, h k' (by simp) hc.1 hc.2]
    · have hne : k ≠ k' := fun he => hc (he ▸ ⟨hm, hj⟩)
      have hl : k ∈ l := by
        rcases List.mem_append.1 hk with h | h
        · exact h
        · exact absurd (List.mem_singleton.1 h) hne
      have := ih hl fun k'' hk'' => h k'' (List.mem_append_left _ hk'')
      by_cases h1 : mask (lane k') = 1
      · rw [if_pos h1, if_neg fun h2 => hc ⟨h1, h2⟩]; exact this
      · rw [if_neg h1]; exact this

/-- One chunk: from a row packed as far as `n`, with `-1` put on the chunk's own sixteen places and then
    each valid token scattered to the offset and the valid lanes before it, comes the row packed sixteen
    tokens further. -/
theorem Done.chunk {x : ℕ → BitVec 32} {n : ℕ} (hn : n + 16 ≤ 4096) {v : IVec Chunk 32}
    (hv : ∀ l : Fin 16, v (lane l) = x (n + l.val)) {f f1 : Vec F Row .i32} (hd : Done x n (rowFn f))
    (hf : ∀ j : Fin 4096, f1 (place j) = if n ≤ j.val ∧ j.val < n + 16 then 4294967295#32 else f (place j))
    (a : BitVec 32) (ha : a = BitVec.ofNat 32 (rank x n)) (h) :
    Done x (n + 16) (rowFn (storeIdx (F := F) (s := Row) (e := .i32) (d := ![16]) f1 ![idxV a v] v (maskV v) false h)) := by
  subst ha
  have hmask : ∀ k : Fin 16, maskV v (lane k) = 1 ↔ Valid (x (n + k.val)) := fun k => by
    rw [maskV_apply, hv]
    split <;> simp_all
  refine hd.step hn (fun l hl hvl => ?_) (fun j hj hmiss => ?_)
  · have hr := rank_le x (n + l)
    rw [rowFn_lt _ (show rank x (n + l) < 4096 by omega), storeIdx_eq]
    have hw := hv ⟨l, hl⟩
    refine (turns_hit _ _ _ _ _ _ ⟨l, hl⟩ (List.mem_finRange _) ((hmask _).2 hvl) (idxV_toNat hv hn ⟨l, hl⟩).symm
      fun k' _ hk' he => ?_).trans hw
    have hq : rank x (n + l) = rank x (n + k'.val) := he.trans (idxV_toNat hv hn k')
    have := rank_inj x hvl ((hmask _).1 hk') hq
    exact Fin.ext (by show k'.val = l; omega)
  · rw [rowFn_lt _ hj, storeIdx_eq, turns_miss _ _ _ _ _ _ fun k _ hk he =>
      hmiss k.val k.isLt ((hmask _).1 hk) ((idxV_toNat hv hn k).symm.trans he.symm), rowFn_lt _ hj]
    exact hf ⟨j, hj⟩

end Cert.Proof.Pack

end
-- ==== Proof.Result.lean ====
/- What the arrays hold in the end, as functions of the input tokens. -/
module

public import proofs.«01_k».proof.Proof.Lanes

@[expose] public section

namespace Cert.Proof.Pack

open Idealize.ShloMosaic

/-- The shape of the token array: sixteen rows of 4096. -/
abbrev Tokens : Shape := ⟨2, ![16, 4096]⟩
/-- The shape of the counts as the kernel writes them: sixteen rows of sixteen equal words. -/
abbrev Counts : Shape := ⟨2, ![16, 16]⟩

/-- The array index of row `r`, place `k`. -/
def cell (r : Fin 16) (k : Fin 4096) : Tokens.Idx := fun | 0 => r | 1 => k

/-- Every array index is its row's and place's. -/
theorem eq_cell (i : Tokens.Idx) : i = cell (i 0) (i 1) := by
  funext a
  match a with
  | 0 => rfl
  | 1 => rfl

/-- Row `r`'s tokens by number; past its end, `-1`. -/
def tokens (X : IVec Tokens 32) (r : Fin 16) (k : ℕ) : BitVec 32 :=
  if h : k < 4096 then X (cell r ⟨k, h⟩) else 4294967295#32

/-- Inside the row, the token of number `k` is the array's word there. -/
theorem tokens_lt (X : IVec Tokens 32) (r : Fin 16) {k : ℕ} (h : k < 4096) : tokens X r k = X (cell r ⟨k, h⟩) := dif_pos h

/-- The packed array: each row packed. -/
noncomputable def packedArr (X : IVec Tokens 32) : IVec Tokens 32 := fun i => packed (tokens X (i 0)) (i 1).val

/-- How many valid tokens row `r` has, as a word. -/
def countOf (X : IVec Tokens 32) (r : Fin 16) : BitVec 32 := BitVec.ofNat 32 (rank (tokens X r) 4096)

/-- The counts as the kernel writes them: each row's count sixteen times. -/
def countArr (X : IVec Tokens 32) : IVec Counts 32 := fun i => countOf X (i 0)

/-- The lengths: each row's count. -/
def lengths (X : IVec Tokens 32) : IVec Chunk 32 := fun i => countOf X (i 0)

end Cert.Proof.Pack

end
-- ==== Proof.IdealTile.lean ====
/- One tile's task over the idealized kernel: it packs its row and writes the row's count, whatever the
   tile; a tile past the sixteenth row does nothing. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton
public import proofs.«01_k».proof.Proof.Result

@[expose] public section

noncomputable section

namespace Cert.Proof.IdealRun

open Cert.KernelIdeal Cert.KernelIdeal.Gen
open Cert.Proof.Pack

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

/-- The labels of the program's threads. -/
abbrev ΛP : Labels := Pipeline.Sig Λ₀ (Fin 0) fun p => (pcfgs (F := F) p).Adm
/-- The launch's configuration. -/
abbrev K : SparseCore.Cfg τ sig (ΛP (F := F)) 1 := sc (F := F)
/-- The program's definitions. -/
abbrev D [FloatOps F] : Defs nD τ sig (Elt F) (ΛP (F := F)) := Pipeline.defs pcfgs defs₀
/-- No loop takes a variant. -/
abbrev 𝒱₀ : Variants := Variants.none
/-- The same for the whole program. -/
abbrev 𝒱 : Variants := 𝒱₀.lift
/-- The one variant there is. -/
abbrev v₀ : 𝒱.V := Sum.inl none

/-- The launch's side conditions: its semaphores are distinct and none is scoped, and no shared buffer is a core's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state of the launch's handshakes. -/
abbrev UH : Type := URounds (GSem nD τ sig) ℕ
/-- The same beside the counters of the tiles' copies. -/
abbrev UU : Type := UH × Counters

local notation "𝕄" => MT nD τ sig (HIx 1) (Elt F) ℕ UU ℕ

/-- Where the handshakes' ghost state lies. -/
abbrev EH : Emb UH (MT nD τ sig (HIx 1) (Elt F) ℕ UU ℕ) := embL

variable (m : (ℓ : Loc nD τ sig) → Buf (Elt F) ℓ) (ρ : Dev nD → PrngReg)

/-- The token array, the packed array and the counts' array, as the TensorCore places them. -/
abbrev xLoc (d : Dev nD) : Loc nD τ sig := (SparseCore.T d).loc main_arg0
/-- The packed array's location. -/
abbrev oLoc (d : Dev nD) : Loc nD τ sig := (SparseCore.T d).loc main_v0_0
/-- The counts' location. -/
abbrev cLoc (d : Dev nD) : Loc nD τ sig := (SparseCore.T d).loc main_v0_1

local notation "xV" => (Memref.whole Cert.KernelIdeal.main_arg0_scv : Memref Cert.KernelIdeal.sig Kind.scVector Space.hbm Cert.KernelIdeal.S16x4096 EltTy.i32)
local notation "oV" => (Memref.whole Cert.KernelIdeal.main_v0_0_scv : Memref Cert.KernelIdeal.sig Kind.scVector Space.hbm Cert.KernelIdeal.S16x4096 EltTy.i32)
local notation "cV" => (Memref.whole Cert.KernelIdeal.main_v0_1_scv : Memref Cert.KernelIdeal.sig Kind.scVector Space.hbm Cert.KernelIdeal.S16x16 EltTy.i32)
local notation "sX" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.i32)
local notation "sC" => (Memref.whole Cert.KernelIdeal.cc0_scratch2 : Memref Cert.KernelIdeal.sig Kind.scVector Space.vmem Cert.KernelIdeal.S16 EltTy.i32)

/-- The launch's tokens, and what the two written arrays hold in the end. -/
abbrev inp (d : Dev nD) : IVec Tokens 32 := m (xLoc d)
/-- The packed array of device `d`'s tokens. -/
abbrev outBuf (d : Dev nD) : Buf (Elt F) (oLoc d) := packedArr (inp m d)
/-- The counts of device `d`'s tokens. -/
abbrev cntBuf (d : Dev nD) : Buf (Elt F) (cLoc d) := countArr (inp m d)

/-! ## Each tile's part of the arrays

Tile `(c, s)` has row `2 s + c`: past the eighth subcore that is no row, and the part is empty. -/

/-- The part of a token array that belongs to tile `(c, s)`: row `2 s + c`. -/
def rowSet (c s : ℕ) : Finset S16x4096.Idx := Finset.univ.filter fun j => (j 0).val = 2 * s + c
/-- The part of the counts that belongs to tile `(c, s)`: row `2 s + c`. -/
def cntSet (c s : ℕ) : Finset S16x16.Idx := Finset.univ.filter fun j => (j 0).val = 2 * s + c

variable [FloatOps F]

/-- What a tile is handed: its row of the tokens and of the two written arrays, at the launch's contents. -/
abbrev goRes (d : Dev nD) (c s : ℕ) : sProp 𝕄 :=
  iprop((xLoc d ↦[rowSet c s]{fullShare} m (xLoc d)) ∗ (oLoc d ↦[rowSet c s]{fullShare} m (oLoc d)) ∗ (cLoc d ↦[cntSet c s]{fullShare} m (cLoc d)))
/-- What a tile brings back: the tokens unchanged, the two written arrays' rows at their final contents. -/
abbrev tdRes (d : Dev nD) (c s : ℕ) : sProp 𝕄 :=
  iprop((xLoc d ↦[rowSet c s]{fullShare} m (xLoc d)) ∗ (oLoc d ↦[rowSet c s]{fullShare} outBuf m d) ∗ (cLoc d ↦[cntSet c s]{fullShare} cntBuf m d))

section Tile

variable (d : Dev nD) (L : grid0.Coords)

/-- The core of the tile with coordinates `L`. -/
abbrev coreL (L : grid0.Coords) : Fin τ.nSC := (L 0).castLE hcore0
/-- Its number on that core. -/
abbrev subL (L : grid0.Coords) : Fin τ.nSub := (L 1).castLE hsub0
/-- The tile's thread. -/
abbrev thr (d : Dev nD) (L : grid0.Coords) : Thread nD τ := V d (coreL L) (subL L)

omit [FloatOps F] in
/-- The body's branch is taken exactly by the tiles that have a row. -/
theorem cond_iff : ∀ L : grid0.Coords, k0_cond1 L = 1#1 ↔ 2 * (L 1).val + (L 0).val < 16 := by decide +kernel

variable (h1 : k0_cond1 L = 1#1)

/-- The row of an active tile. -/
abbrev wid : Fin 16 := ⟨2 * (L 1).val + (L 0).val, (cond_iff L).1 h1⟩

/-- The rectangle of a token array that the tile copies. -/
abbrev xRect : Rect S16x4096 := Rect.unit (s := S16x4096) (k0_off1 L) S1x4096.size (k0_off1_inb L h1)
/-- The rectangle of the counts that the tile copies. -/
abbrev cRect : Rect S16x16 := Rect.unit (s := S16x16) (k0_off3 L) S1x16.size (k0_off3_inb L h1)
/-- The tile's row of the tokens, of the packed array, of the counts, as the task addresses them. -/
abbrev xRow : Memref sig .scVector .hbm S4096 .i32 := ((xV).slice (xRect L h1) (fun _ => rfl)).squeeze S4096 squeezes_S1x4096_S4096
/-- The tile's row of the packed array. -/
abbrev oRow : Memref sig .scVector .hbm S4096 .i32 := ((oV).slice (xRect L h1) (fun _ => rfl)).squeeze S4096 squeezes_S1x4096_S4096
/-- The tile's row of the counts. -/
abbrev cRow : Memref sig .scVector .hbm S16 .i32 := ((cV).slice (cRect L h1) (fun _ => rfl)).squeeze S16 squeezes_S1x16_S16

omit [FloatOps F] in
/-- The token rectangle is the tile's row. -/
theorem xRect_set : (xRect L h1).set = rowSet (L 0).val (L 1).val := by
  ext j
  rw [Rect.mem_set_unit, rowSet, Finset.mem_filter, k0_off1_eq]
  have hj : (j 1).val < 4096 := (j 1).isLt
  rw [Fin.forall_fin_two]
  simp
  omega
omit [FloatOps F] in
/-- The counts' rectangle is the tile's row. -/
theorem cRect_set : (cRect L h1).set = cntSet (L 0).val (L 1).val := by
  ext j
  rw [Rect.mem_set_unit, cntSet, Finset.mem_filter, k0_off3_eq]
  have hj : (j 1).val < 16 := (j 1).isLt
  rw [Fin.forall_fin_two]
  simp
  omega

omit [FloatOps F] in
/-- The tile's view of the tokens covers its row. -/
theorem set_xRow : (xRow L h1).view.set = rowSet (L 0).val (L 1).val := by
  show (((xV).view.slice (xRect L h1)).reshape S4096 squeezes_S1x4096_S4096.numel_eq).set = _
  rw [View.set_reshape, ← xRect_set L h1, View.set_slice]; exact Finset.map_refl
omit [FloatOps F] in
/-- The tile's view of the packed array covers its row. -/
theorem set_oRow : (oRow L h1).view.set = rowSet (L 0).val (L 1).val := by
  show (((oV).view.slice (xRect L h1)).reshape S4096 squeezes_S1x4096_S4096.numel_eq).set = _
  rw [View.set_reshape, ← xRect_set L h1, View.set_slice]; exact Finset.map_refl
omit [FloatOps F] in
/-- The tile's view of the counts covers its row. -/
theorem set_cRow : (cRow L h1).view.set = cntSet (L 0).val (L 1).val := by
  show (((cV).view.slice (cRect L h1)).reshape S16 squeezes_S1x16_S16.numel_eq).set = _
  rw [View.set_reshape, ← cRect_set L h1, View.set_slice]; exact Finset.map_refl

omit [FloatOps F] in
/-- Place `x` of the tile's row is place `x` of row `wid` of the array. -/
theorem emb_row (x : S4096.Idx) :
    (xRect L h1).emb (Shape.reshapeEquiv (s := S1x4096) squeezes_S1x4096_S4096.numel_eq x) = cell (wid L h1) (x 0) := by
  rw [Shape.reshapeEquiv_eq_of_rowMajor (s := S1x4096) (y := fun | 0 => (0 : Fin 1) | 1 => x 0) _
    (by rw [Shape.rowMajor_val_two, Shape.rowMajor_val_one]; simp)]
  refine Rect.emb_eq_of_coords _ _ _ fun a => ?_
  rw [show (xRect L h1).off = ![2 * (L 1).val + (L 0).val, 0] from k0_off1_eq L]
  match a with
  | 0 => simp [cell]
  | 1 => simp [cell]
omit [FloatOps F] in
/-- The counts' row of the tile lies in row `wid` of the array. -/
theorem emb_cnt (x : S16.Idx) :
    ((cRect L h1).emb (Shape.reshapeEquiv (s := S1x16) squeezes_S1x16_S16.numel_eq x)) 0 = wid L h1 := by
  rw [Shape.reshapeEquiv_eq_of_rowMajor (s := S1x16) (y := fun | 0 => (0 : Fin 1) | 1 => x 0) _
    (by rw [Shape.rowMajor_val_two, Shape.rowMajor_val_one]; simp)]
  refine Fin.ext ?_
  show (cRect L h1).off 0 + _ = _
  rw [show (cRect L h1).off = ![2 * (L 1).val + (L 0).val, 0] from k0_off3_eq L]
  simp

/-- The semaphore of the copy in. -/
abbrev aCell : GSem nD τ sig := (thr d L, .dma cc0_scoped0.sem)
/-- The semaphore of the packed row's copy out. -/
abbrev bCell : GSem nD τ sig := (thr d L, .dma cc0_scoped1.sem)
/-- The semaphore of the count's copy out. -/
abbrev cCell : GSem nD τ sig := (thr d L, .dma cc0_scoped2.sem)

omit [FloatOps F] in
/-- A tile's semaphores at zero are the three of its copies at zero and the rest. -/
theorem ownSems0_V :
    (ownSems0 (thr d L) : sProp 𝕄)
      = iprop(semVal (aCell d L) 0 ∗ semVal (bCell d L) 0 ∗ semVal (cCell d L) 0
          ∗ bigSep ((((ownCells (thr d L)).erase (aCell d L)).erase (bCell d L)).erase (cCell d L)) fun g => semVal g 0) := by
  unfold SparseCore.Cfg.ownSems0
  rw [SparseCore.bigSep_erase' ((mem_ownCells (g := aCell d L)).mpr ⟨rfl, by
      show (SemLoc.dma cc0_scoped0.sem : SemLoc sig).isScoped .scVector = true; decide⟩),
    SparseCore.bigSep_erase' (Finset.mem_erase.mpr ⟨by simp [aCell, bCell]; decide, (mem_ownCells (g := bCell d L)).mpr ⟨rfl, by
      show (SemLoc.dma cc0_scoped1.sem : SemLoc sig).isScoped .scVector = true; decide⟩⟩),
    SparseCore.bigSep_erase' (Finset.mem_erase.mpr ⟨by simp [bCell, cCell]; decide, Finset.mem_erase.mpr ⟨by simp [aCell, cCell]; decide,
      (mem_ownCells (g := cCell d L)).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (coreL L) (subL L))).erase ((Proc.scVector (coreL L) (subL L)).devRef cc0_scratch0)).erase
              ((Proc.scVector (coreL L) (subL L)).devRef cc0_scratch1)).erase ((Proc.scVector (coreL L) (subL L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (coreL L) (subL L))
    (b := (Proc.scVector (coreL L) (subL L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (coreL L) (subL L)) (b := (Proc.scVector (coreL L) (subL L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (coreL L) (subL L)) (b := (Proc.scVector (coreL L) (subL L)).devRef cc0_scratch2) rfl⟩⟩)]

omit [FloatOps F] in
/-- Holding the tile's view of the tokens is holding its row of them. -/
theorem pts_xRow (f : Buf (Elt F) (xLoc d)) :
    ((xRow L h1).view.loc (thr d L) ↦[(xRow L h1).view.set]{fullShare} f : sProp 𝕄) = xLoc d ↦[rowSet (L 0).val (L 1).val]{fullShare} f := by
  rw [set_xRow]
omit [FloatOps F] in
/-- Holding the tile's view of the packed array is holding its row of it. -/
theorem pts_oRow (f : Buf (Elt F) (oLoc d)) :
    ((oRow L h1).view.loc (thr d L) ↦[(oRow L h1).view.set]{fullShare} f : sProp 𝕄) = oLoc d ↦[rowSet (L 0).val (L 1).val]{fullShare} f := by
  rw [set_oRow]
omit [FloatOps F] in
/-- Holding the tile's view of the counts is holding its row of them. -/
theorem pts_cRow (f : Buf (Elt F) (cLoc d)) :
    ((cRow L h1).view.loc (thr d L) ↦[(cRow L h1).view.set]{fullShare} f : sProp 𝕄) = cLoc d ↦[cntSet (L 0).val (L 1).val]{fullShare} f := by
  rw [set_cRow]
omit [FloatOps F] in
/-- Holding the first scratch buffer by its view is holding it. -/
theorem pts_sX (f : Buf (Elt F) ((thr d L).loc cc0_scratch0)) :
    ((sX).view.loc (thr d L) ↦{fullShare} f : sProp 𝕄) = (thr d L).loc cc0_scratch0 ↦{fullShare} f := rfl
omit [FloatOps F] in
/-- Holding the second scratch buffer by its view is holding it. -/
theorem pts_sO (f : Buf (Elt F) ((thr d L).loc cc0_scratch1)) :
    ((sO).view.loc (thr d L) ↦{fullShare} f : sProp 𝕄) = (thr d L).loc cc0_scratch1 ↦{fullShare} f := rfl
omit [FloatOps F] in
/-- Holding the third scratch buffer by its view is holding it. -/
theorem pts_sC (f : Buf (Elt F) ((thr d L).loc cc0_scratch2)) :
    ((sC).view.loc (thr d L) ↦{fullShare} f : sProp 𝕄) = (thr d L).loc cc0_scratch2 ↦{fullShare} f := rfl

/-- The tile's row of the tokens, as its first scratch buffer holds it once fetched. -/
def rowBuf : Buf (Elt F) ((thr d L).loc cc0_scratch0) := fun i => m (xLoc d) (cell (wid L h1) (i 0))

omit [FloatOps F] in
/-- The fetched row's words by number are the row's tokens. -/
theorem rowFn_rowBuf : rowFn (rowBuf m d L h1 : IVec S4096 32) = tokens (inp m d) (wid L h1) := rfl

omit [FloatOps F] in
/-- What the fetch lands in the first scratch buffer is the row. -/
theorem fetched (fs : Buf (Elt F) ((thr d L).loc cc0_scratch0)) (pay : S4096.Idx → Elt F .i32)
    (hpay : pay = (xRow L h1).view.read (Elt F) (m (xLoc d))) :
    View.write (Elt F) (sX).view fs pay Finset.univ = rowBuf m d L h1 := by
  subst hpay
  refine (View.write_whole_univ _ _ _).trans ?_
  funext i
  exact (View.read_apply _ _).trans ((cast_eq _ _).trans (congrArg (m (xLoc d)) (emb_row L h1 i)))

omit [FloatOps F] in
/-- The loop runs 256 trips. -/
theorem trips_eq : k0_t1_loop.trips = 256 := by decide +kernel

/-- The sixteen places trip `t` reads and writes. -/
abbrev chunkRect (t : Fin k0_t1_loop.trips) : Rect S4096 := Rect.unit (s := S4096) (k0_off2 t) S16.size (k0_off2_inb L t h1)

omit [FloatOps F] in
/-- Every trip's chunk lies inside the row. -/
theorem chunk_end (t : Fin k0_t1_loop.trips) : 16 * t.val + 16 ≤ 4096 := by
  have := t.isLt
  have := trips_eq
  omega

omit [FloatOps F] in
/-- Lane `l` of trip `t`'s chunk is place `16 t + l` of the row. -/
theorem chunk_emb (t : Fin k0_t1_loop.trips) (l : Fin 16) :
    (chunkRect L h1 t).emb (lane l) = place ⟨16 * t.val + l.val, by have := chunk_end t; omega⟩ := by
  refine Rect.emb_eq_of_coords _ _ _ fun a => ?_
  obtain rfl := Fin.eq_zero a
  rw [show (chunkRect L h1 t).off = ![16 * t.val] from k0_off2_eq t]
  show 16 * t.val + l.val = 16 * t.val + 1 * l.val
  omega

/-- Trip `t`'s tokens, as the load reads them. -/
abbrev chunkVec (t : Fin k0_t1_loop.trips) : IVec Chunk 32 :=
  View.readAt (Elt F) (sX).view (chunkRect L h1 t).toLoadRect (rowBuf m d L h1)

omit [FloatOps F] in
/-- Lane `l` of trip `t`'s tokens is the row's token `16 t + l`. -/
theorem chunkVec_lane (t : Fin k0_t1_loop.trips) (l : Fin 16) :
    chunkVec m d L h1 t (lane l) = tokens (inp m d) (wid L h1) (16 * t.val + l.val) := by
  have := chunk_end t
  rw [← rowFn_rowBuf, rowFn_lt _ (show 16 * t.val + l.val < 4096 by omega), ← chunk_emb L h1 t l]
  rfl

omit [FloatOps F] in
/-- The row after trip `t` has put `-1` on its chunk. -/
theorem filled (t : Fin k0_t1_loop.trips) (fo : Buf (Elt F) ((thr d L).loc cc0_scratch1)) (j : Fin 4096) :
    ((sO).view.writes (Elt F) fo [⟨chunkRect L h1 t, k0_pay1⟩] : IVec Row 32) (place j)
      = if 16 * t.val ≤ j.val ∧ j.val < 16 * t.val + 16 then 4294967295#32 else (fo : IVec Row 32) (place j) := by
  have he := chunk_end t
  show (sO).view.read (Elt F) ((sO).view.writes (Elt F) fo [⟨chunkRect L h1 t, k0_pay1⟩]) (place j) = _
  split
  · next h =>
    refine View.read_writes_cons_hit (v := (sO).view) (f := fo) (chunkRect L h1 t) k0_pay1 [] (lane ⟨j.val - 16 * t.val, by omega⟩) (place j) ?_
    rw [chunk_emb L h1 t]
    exact congrArg place (Fin.ext (by show 16 * t.val + (j.val - 16 * t.val) = j.val; omega))
  · next h =>
    refine (View.read_writes_cons_miss_of_axis (v := (sO).view) (f := fo) ⟨chunkRect L h1 t, k0_pay1⟩ [] (place j) 0 (16 * t.val) 16
      (congrFun (k0_off2_eq t) 0) rfl rfl ?_).trans rfl
    show j.val < 16 * t.val ∨ 16 * t.val + 16 ≤ j.val
    omega

omit [FloatOps F] in
/-- Holding the second scratch buffer as the scatter reaches it is holding it. -/
theorem pts_sO_access (f : Buf (Elt F) ((thr d L).loc cc0_scratch1)) :
    (((sO : Memref sig .scVector .vmem S4096 .i32).access (.whole S4096)).loc (thr d L) ↦[((sO : Memref sig .scVector .vmem S4096 .i32).access (.whole S4096)).set]{fullShare} f : sProp 𝕄)
      = (sO).view.loc (thr d L) ↦{fullShare} f := by
  rw [show ((sO : Memref sig .scVector .vmem S4096 .i32).access (.whole S4096)).set = Finset.univ from Memref.set_access_whole (cc0_scratch1 : Ref sig .scVector)]

omit [FloatOps F] in
/-- Every lane of trip `t` is sent inside the row, so the scatter's addresses are in range. -/
theorem chk (t : Fin k0_t1_loop.trips) (a : BitVec 32) (ha : a = BitVec.ofNat 32 (rank (tokens (inp m d) (wid L h1)) (16 * t.val))) :
    k0_chk1 L (k0_pay4 (F := F) a (chunkVec m d L h1 t)) := by
  subst ha
  intro _ b i
  obtain rfl := Fin.eq_zero b
  exact idxV_lt (fun l => chunkVec_lane m d L h1 t l) (chunk_end t) i

omit [FloatOps F] in
/-- The last lane of the running count is the chunk's count. -/
theorem last_lane (v : IVec Chunk 32) : extractAt ![15] (k0_pay5 (F := F) v) inpos_S16_p15 = scan .sum (bitV v) (lane 15) := by
  have hb : k0_pay3 (F := F) v = bitV v := rfl
  have hs : k0_pay5 (F := F) v = scan .sum (bitV v) := congrArg (scan .sum) hb
  rw [hs]
  refine congrArg (scan .sum (bitV v)) (funext fun a => ?_)
  obtain rfl := Fin.eq_zero a
  rfl

omit [FloatOps F] in
/-- The count after trip `t`. -/
theorem next_count (t : Fin k0_t1_loop.trips) (a : BitVec 32)
    (ha : a = BitVec.ofNat 32 (rank (tokens (inp m d) (wid L h1)) (16 * t.val))) :
    Scalar.addi a (extractAt ![15] (k0_pay5 (F := F) (chunkVec m d L h1 t)) inpos_S16_p15)
      = BitVec.ofNat 32 (rank (tokens (inp m d) (wid L h1)) (16 * (t.val + 1))) := by
  rw [last_lane, Nat.mul_add, Nat.mul_one]
  subst ha
  exact next_off (x := tokens (inp m d) (wid L h1)) (n := 16 * t.val) (fun l => chunkVec_lane m d L h1 t l)

/-- The row after trip `t`. -/
theorem next_done (t : Fin k0_t1_loop.trips) (fo : IVec S4096 32)
    (hd : Done (tokens (inp m d) (wid L h1)) (16 * t.val) (rowFn fo)) (a : BitVec 32)
    (ha : a = BitVec.ofNat 32 (rank (tokens (inp m d) (wid L h1)) (16 * t.val))) (h) :
    Done (tokens (inp m d) (wid L h1)) (16 * (t.val + 1))
      (rowFn (storeIdx (F := F) (s := S4096) (e := .i32) (d := ![16]) ((sO).view.writes (Elt F) fo [⟨chunkRect L h1 t, k0_pay1⟩])
        ![k0_pay4 (F := F) a (chunkVec m d L h1 t)] (chunkVec m d L h1 t) (k0_pay2 (F := F) (chunkVec m d L h1 t)) false h)) := by
  rw [Nat.mul_add, Nat.mul_one]
  exact Done.chunk (F := F) (x := tokens (inp m d) (wid L h1)) (n := 16 * t.val) (chunk_end t) (fun l => chunkVec_lane m d L h1 t l)
    hd (filled d L h1 t fo) a ha h

/-- What the transfer of the packed row leaves on the tile's row is the packed array's. -/
theorem packed_row (fo : Buf (Elt F) ((thr d L).loc cc0_scratch1)) (pay : S4096.Idx → Elt F .i32) (hpay : pay = (sO).view.read (Elt F) fo)
    (hd : Done (tokens (inp m d) (wid L h1)) 4096 (rowFn (fo : IVec S4096 32))) (f : Buf (Elt F) (oLoc d)) :
    ∀ i ∈ (oRow L h1).view.set, ((oRow L h1).view.writes (Elt F) f [⟨Rect.whole S4096, pay⟩] : IVec Tokens 32) i = packedArr (inp m d) i := by
  subst hpay
  intro i hi
  obtain ⟨x, -, rfl⟩ := Finset.mem_map.mp hi
  have hw : (Rect.whole S4096).emb x = x := Rect.emb_eq_of_coords _ _ _ fun a => by
    obtain rfl := Fin.eq_zero a
    show (x 0).val = 0 + 1 * (x 0).val
    omega
  refine ((cast_eq _ _).symm.trans ((View.read_apply _ _).symm.trans
    (View.read_writes_cons_hit (v := (oRow L h1).view) (f := f) (Rect.whole S4096) _ [] x x hw))).trans ?_
  rw [show (oRow L h1).view.emb x = cell (wid L h1) (x 0) from emb_row L h1 x]
  refine Eq.trans ?_ (hd.eq_packed (x 0).isLt)
  exact (congrArg fo (eq_place x)).trans (rowFn_lt (fo : IVec Row 32) (x 0).isLt).symm

/-- What the transfer of the count leaves on the tile's row of the counts is the row's count. -/
theorem count_row (a : BitVec 32) (fc : Buf (Elt F) ((thr d L).loc cc0_scratch2)) (pay : S16.Idx → Elt F .i32)
    (hpay : pay = (sC).view.read (Elt F) ((sC).view.writes (Elt F) fc [⟨Rect.unit (s := S16) ![0] S16.size inb_S16_S16_0, k0_pay6 a⟩]))
    (ha : a = countOf (inp m d) (wid L h1)) (f : Buf (Elt F) (cLoc d)) :
    ∀ i ∈ (cRow L h1).view.set, ((cRow L h1).view.writes (Elt F) f [⟨Rect.whole S16, pay⟩] : IVec Counts 32) i = countArr (inp m d) i := by
  subst hpay ha
  intro i hi
  obtain ⟨x, -, rfl⟩ := Finset.mem_map.mp hi
  have hw : (Rect.whole S16).emb x = x := Rect.emb_eq_of_coords _ _ _ fun a => by
    obtain rfl := Fin.eq_zero a
    show (x 0).val = 0 + 1 * (x 0).val
    omega
  have hw' : (Rect.unit (s := S16) ![0] S16.size inb_S16_S16_0).emb x = x := Rect.emb_eq_of_coords _ _ _ fun a => by
    obtain rfl := Fin.eq_zero a
    show (x 0).val = 0 + 1 * (x 0).val
    omega
  refine ((cast_eq _ _).symm.trans ((View.read_apply _ _).symm.trans
    (View.read_writes_cons_hit (v := (cRow L h1).view) (f := f) (Rect.whole S16) _ [] x x hw))).trans ?_
  refine (View.read_writes_cons_hit (v := (sC).view) (f := fc) (Rect.unit (s := S16) ![0] S16.size inb_S16_S16_0) (k0_pay6 _) [] x x hw').trans ?_
  show 1#32 * countOf (inp m d) (wid L h1) = countOf (inp m d) (((cRow L h1).view.emb x) 0)
  rw [show ((cRow L h1).view.emb x) 0 = wid L h1 from emb_cnt L h1 x, BitVec.one_mul]

/-- Between trips: the fetched tokens `fx`, the row packed as far as the trips have gone, the offset the
    number of valid tokens up to there. -/
def inv (x : ℕ → BitVec 32) (fx : Buf (Elt F) ((thr d L).loc cc0_scratch0)) (t : ℕ) (a : BitVec 32) : sProp 𝕄 :=
  iprop(((sX).view.loc (thr d L) ↦{fullShare} fx)
    ∗ ∃ fo, ⌜a = BitVec.ofNat 32 (rank x (16 * t)) ∧ Done x (16 * t) (rowFn (fo : IVec S4096 32))⌝ ∗ ((sO).view.loc (thr d L) ↦{fullShare} fo))

set_option maxHeartbeats 1000000 in
/-- One tile's run: from its row of each array and its own scratch and semaphores at zero, the body ends with the row of the
    packed array packed, the row of the counts filled with the count, and all semaphores at zero again. -/
theorem tile_body (hF : (K (F := F)).Facts) (O : CellTallies nD τ sig (HIx 1)) (W : Waits sig (HIx 1)) (hO : ∀ g, O g none = 0) :
    iprop(levAts (K (F := F)).L (K (F := F)).lev ∗ emp ∗ goRes m d (L 0).val (L 1).val
        ∗ scopedBufs (thr d L) ∗ scopedSems0 (thr d L) ∗ owes (thr d L) O W)
      ⊢ wp frame (wpE (defs₀ (F := F)) 𝒱₀ (thr d L) none) Set.univ
          (cc0__tokenizer_body L xV (Memref.isWhole_whole _) oV (Memref.isWhole_whole _) cV (Memref.isWhole_whole _)
            sX (Memref.isWhole_whole _) sO (Memref.isWhole_whole _) sC (Memref.isWhole_whole _) cc0_scoped0 cc0_scoped1 cc0_scoped2)
          fun _ => iprop(tdRes m d (L 0).val (L 1).val
            ∗ scopedBufs (thr d L) ∗ scopedSems0 (thr d L)
            ∗ ∃ W', ⌜∀ p ∈ W', p ∈ W ∨ p.2 = none⌝ ∗ owes (thr d L) O W') := by
  simp only [cc0__tokenizer_body_eq_skeleton]; unfold cc0__tokenizer_body_skel
  rw [(K (F := F)).scopedBufs_V hF d (coreL L) (subL L), SparseCore.Cfg.scopedSems0_V (Val := Elt F) d (coreL L) (subL L), ownSems0_V, ownBufs_V]
  iintro ⟨#Hlv, -, ⟨Hx, Ho, Hc⟩, ⟨⟨%fs, Hs⟩, ⟨%fr, Hr⟩, ⟨%fc, Hk⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  by_cases k0_h1 : k0_cond1 L = 1#1
  · ihave Hx' := (Entails.of_eq (pts_xRow (F := F) d L k0_h1 _).symm) $$ Hx
    ihave Ho' := (Entails.of_eq (pts_oRow (F := F) d L k0_h1 _).symm) $$ Ho
    ihave Hc' := (Entails.of_eq (pts_cRow (F := F) d L k0_h1 _).symm) $$ Hc
    ihave Hs' := (Entails.of_eq (pts_sX (F := F) d L _).symm) $$ Hs
    ihave Hr' := (Entails.of_eq (pts_sO (F := F) d L _).symm) $$ Hr
    ihave Hk' := (Entails.of_eq (pts_sC (F := F) d L _).symm) $$ Hk
    rw [dif_pos k0_h1, k0_part1_eq_skeleton]
    unfold k0_part1_skel
    rw [wp_bind, wp_bind]
    sl_exec
    ihave Hs2 := (Entails.of_eq (show ((sX).view.loc (thr d L) ↦{fullShare} View.write (Elt F) (sX).view fs (tile_body.sl.dma0 m d L k0_h1) Finset.univ : sProp 𝕄)
      = (sX).view.loc (thr d L) ↦{fullShare} rowBuf m d L k0_h1 by rw [fetched m d L k0_h1 fs (tile_body.sl.dma0 m d L k0_h1) rfl])) $$ Hs'
    sl_for (inv d L (tokens (inp m d) (wid L k0_h1)) (rowBuf m d L k0_h1)) $$ [Hs2 Hr']
    case region =>
      intro t a
      unfold inv
      iintro ⟨Hs, %fo, %hd, Hr⟩
      obtain ⟨ha, hdone⟩ := hd
      sl_exec
      rw [wp_assume_of _ _ _ _ (show k0_chk1 L (tile_body.sl.v30 m d L k0_h1 t a) from chk m d L k0_h1 t a ha)]
      ihave Hr' := (Entails.of_eq (pts_sO_access (F := F) d L _).symm) $$ Hr
      iapply (SparseCore.wp_vectorStoreIdx 𝒱₀ (thr d L) none Set.univ (base := (sO : Memref sig .scVector .vmem S4096 .i32))) $$ Hr'
      iintro Hr'
      ihave Hr := (Entails.of_eq (pts_sO_access (F := F) d L _)) $$ Hr'
      sl_exec
      sl_step
      isplitl [Hs]; · iexact Hs
      iexists _
      isplitr
      swap; · iexact Hr
      ipureintro
      rw [Memref.write_access_whole_univ, Memref.read_access_whole]
      refine ⟨?_, ?_⟩
      · exact next_count m d L k0_h1 t a ha
      · exact next_done m d L k0_h1 t fo hdone a ha _
    · unfold inv
      isplitl [Hs2]; · iexact Hs2
      iexists fr
      isplitr
      · ipureintro; exact ⟨by simp [rank], Done.zero _ _⟩
      · iexact Hr'
    iintro %a HI
    unfold inv
    icases HI with ⟨Hs2, %fo, %hd, Hr'⟩
    sl_exec
    sl_step
    obtain ⟨ha, hdone⟩ := hd
    rw [show Scf.trips k0_t1_loop.lb k0_t1_loop.ub k0_t1_loop.st = 256 from trips_eq] at ha hdone
    isplitl [Hx' Ho' Hc']
    · isplitl [Hx']; · iapply (Entails.of_eq (pts_xRow (F := F) d L k0_h1 _)); iexact Hx'
      isplitl [Ho']
      · iapply (Entails.of_eq (pts_oRow (F := F) d L k0_h1 _))
        iapply (Entails.of_eq (pointsTo_congr (packed_row m d L k0_h1 fo (tile_body.sl.dma0_1 fo) rfl hdone (m (oLoc d)))))
        iexact Ho'
      · iapply (Entails.of_eq (pts_cRow (F := F) d L k0_h1 _))
        iapply (Entails.of_eq (pointsTo_congr (count_row m d L k0_h1 a fc (tile_body.sl.dma2 d L fc a) rfl ha (m (cLoc d)))))
        iexact Hc'
    isplitl [Hs2 Hr' Hk' Hbufs]
    · isplitl [Hs2]; · iexists _; iexact Hs2
      isplitl [Hr']; · iexists _; iexact Hr'
      isplitl [Hk']; · iexists _; iexact Hk'
      iexact Hbufs
    isplitl [HsemA HsemB HsemC Hsems]
    · isplitl [HsemA]; · iexact HsemA
      isplitl [HsemB]; · iexact HsemB
      isplitl [HsemC]; · iexact HsemC
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · have hidle : ¬ 2 * (L 1).val + (L 0).val < 16 := fun h => k0_h1 ((cond_iff L).2 h)
    sl_exec
    sl_step
    isplitl [Hx Ho Hc]
    · isplitl [Hx]; · iexact Hx
      isplitl [Ho]
      · iapply (Entails.of_eq (pointsTo_congr (f := m (oLoc d)) (g := outBuf m d) fun i hi => absurd (i 0).isLt (by
          rw [(Finset.mem_filter.1 hi).2]; exact hidle)))
        iexact Ho
      · iapply (Entails.of_eq (pointsTo_congr (f := m (cLoc d)) (g := cntBuf m d) fun i hi => absurd (i 0).isLt (by
          rw [(Finset.mem_filter.1 hi).2]; exact hidle)))
        iexact Hc
    isplitl [Hs Hr Hk Hbufs]
    · isplitl [Hs]; · iexists _; iexact Hs
      isplitl [Hr]; · iexists _; iexact Hr
      isplitl [Hk]; · iexists _; iexact Hk
      iexact Hbufs
    isplitl [HsemA HsemB HsemC Hsems]
    · isplitl [HsemA]; · iexact HsemA
      isplitl [HsemB]; · iexact HsemB
      isplitl [HsemC]; · iexact HsemC
      iexact Hsems
    iexists W; isplitr
    · ipureintro; exact fun p hp => .inl hp
    · iexact HO

end Tile

end Cert.Proof.IdealRun

end
-- ==== Proof.IdealLaunch.lean ====
/- The idealized kernel's launch: the arrays split among the thirty-two tiles, each tile's task, the rows
   joined again, then the counts' first column as the second result. -/
module

public import proofs.«01_k».proof.Proof.IdealTile
public import Idealize.ShloMosaic.Lib.Pipeline.Value

@[expose] public section

noncomputable section

namespace Cert.Proof.IdealRun

open Cert.KernelIdeal Cert.KernelIdeal.Gen
open Cert.Proof.Pack

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S16x4096 EltTy.i32)
local notation "oV" => (Memref.whole Cert.KernelIdeal.main_v0_0_scv : Memref Cert.KernelIdeal.sig Kind.scVector Space.hbm Cert.KernelIdeal.S16x4096 EltTy.i32)
local notation "cV" => (Memref.whole Cert.KernelIdeal.main_v0_1_scv : Memref Cert.KernelIdeal.sig Kind.scVector Space.hbm Cert.KernelIdeal.S16x16 EltTy.i32)
local notation "sX" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.i32)
local notation "sC" => (Memref.whole Cert.KernelIdeal.cc0_scratch2 : Memref Cert.KernelIdeal.sig Kind.scVector Space.vmem Cert.KernelIdeal.S16 EltTy.i32)

variable (m : (ℓ : Loc nD τ sig) → Buf (Elt F) ℓ) (ρ : Dev nD → PrngReg)

variable [FloatOps F]

/-! ## What the handshakes carry -/

/-- What SparseCore `c`'s sequencer is handed, and hands back: its sixteen tiles' parts. -/
abbrev stRes (d : Dev nD) (c : ℕ) : sProp 𝕄 := bigSep (Finset.univ : Finset (Fin 16)) fun s => goRes m d c s.val
/-- What core `c` hands back when it ends: its tiles' rows, packed and counted. -/
abbrev dnRes (d : Dev nD) (c : ℕ) : sProp 𝕄 := bigSep (Finset.univ : Finset (Fin 16)) fun s => tdRes m d c s.val

/-- What passes at each handshake of the launch: rows to be worked on out, finished rows back. -/
def P : (K (F := F)).Pay (nD := nD) (Val := Elt F) (Name := ℕ) (U := UU) where
  st := fun q d c => match q with | 0 => stRes m d c.val
  dn := fun q d c => match q with | 0 => dnRes m d c.val
  go := fun q d c i => match q with | 0 => goRes m d c.val i.val
  td := fun q d c i => match q with | 0 => tdRes m d c.val i.val
  x := fun _ _ => iprop(emp)

/-- All of it can be kept at a semaphore. -/
instance P_storable : (P (F := F) m).IsStorable where
  st q d c := match q with | 0 => (inferInstance : BI.Storable (upEmb : UEmb _ 𝕄) (stRes m d c.val))
  dn q d c := match q with | 0 => (inferInstance : BI.Storable (upEmb : UEmb _ 𝕄) (dnRes m d c.val))
  go q d c i := match q with | 0 => (inferInstance : BI.Storable (upEmb : UEmb _ 𝕄) (goRes m d c.val i.val))
  td q d c i := match q with | 0 => (inferInstance : BI.Storable (upEmb : UEmb _ 𝕄) (tdRes m d c.val i.val))

/-! ## The task -/

/-- The grid coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its coordinates. -/
theorem defs₀_vector (c : Fin τ.nSC) (s : Fin τ.nSub) :
    defs₀ (F := F) (.scVector c s) 0 ()
      = SparseCore.onTile hcore0 hsub0 (fun c s => cc0__tokenizer_body (coordsV c s)
          xV (Memref.isWhole_whole _) oV (Memref.isWhole_whole _) cV (Memref.isWhole_whole _)
          sX (Memref.isWhole_whole _) sO (Memref.isWhole_whole _) sC (Memref.isWhole_whole _) cc0_scoped0 cc0_scoped1 cc0_scoped2) ⟨⟩ c s := rfl

omit [FloatOps F] in
/-- Waiting only on the tile's own copies is within what a launched tile may do. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets what the launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-- A sequencer's part is its tiles' parts, going out and coming back. -/
theorem vecSplit : (K (F := F)).VecSplit' (P m) 0 := by
  intro d c
  show stRes m d c.val ⊢ |={Set.univ}=> iprop((bigSep (Finset.univ : Finset (Fin 16)) fun i => goRes m d c.val i.val)
      ∗ ((bigSep (Finset.univ : Finset (Fin 16)) fun i => tdRes m d c.val i.val) -∗ dnRes m d c.val))
  iintro H; imodintro
  isplitl [H]; · iexact H
  iintro H; iexact H

/-! ## The arrays split among the tiles

Every row belongs to exactly one of the thirty-two pairs. -/

/-- Different tiles have different rows of a token array. -/
theorem rowSet_disj {c s c' s' : ℕ} (hc : c < 2) (hc' : c' < 2) (h : ¬ (c = c' ∧ s = s')) : Disjoint (rowSet c s) (rowSet c' s') :=
  Finset.disjoint_left.2 fun j h1 h2 => h (by
    have h1 := (Finset.mem_filter.1 h1).2; have h2 := (Finset.mem_filter.1 h2).2; omega)
/-- Different tiles have different rows of the counts. -/
theorem cntSet_disj {c s c' s' : ℕ} (hc : c < 2) (hc' : c' < 2) (h : ¬ (c = c' ∧ s = s')) : Disjoint (cntSet c s) (cntSet c' s') :=
  Finset.disjoint_left.2 fun j h1 h2 => h (by
    have h1 := (Finset.mem_filter.1 h1).2; have h2 := (Finset.mem_filter.1 h2).2; omega)
/-- The tiles' rows make up a token array. -/
theorem rowSet_cover : ((Finset.univ : Finset (Fin 2)).biUnion fun c => (Finset.univ : Finset (Fin 16)).biUnion fun s => rowSet c.val s.val) = Finset.univ :=
  Finset.eq_univ_iff_forall.2 fun j => by
    have hj : (j 0).val < 16 := (j 0).isLt
    refine Finset.mem_biUnion.2 ⟨⟨(j 0).val % 2, by omega⟩, Finset.mem_univ _, Finset.mem_biUnion.2 ⟨⟨(j 0).val / 2, by omega⟩, Finset.mem_univ _, ?_⟩⟩
    exact Finset.mem_filter.2 ⟨Finset.mem_univ _, by show (j 0).val = 2 * ((j 0).val / 2) + (j 0).val % 2; omega⟩
/-- The tiles' rows make up the counts. -/
theorem cntSet_cover : ((Finset.univ : Finset (Fin 2)).biUnion fun c => (Finset.univ : Finset (Fin 16)).biUnion fun s => cntSet c.val s.val) = Finset.univ :=
  Finset.eq_univ_iff_forall.2 fun j => by
    have hj : (j 0).val < 16 := (j 0).isLt
    refine Finset.mem_biUnion.2 ⟨⟨(j 0).val % 2, by omega⟩, Finset.mem_univ _, Finset.mem_biUnion.2 ⟨⟨(j 0).val / 2, by omega⟩, Finset.mem_univ _, ?_⟩⟩
    exact Finset.mem_filter.2 ⟨Finset.mem_univ _, by show (j 0).val = 2 * ((j 0).val / 2) + (j 0).val % 2; omega⟩

omit [FloatOps F] in
/-- An array held whole is its parts held, for any family of parts that are disjoint and cover it. -/
theorem split_parts (ℓ : Loc nD τ sig) (f : Buf (Elt F) ℓ) (R : ℕ → ℕ → Finset (Idx ℓ))
    (hd : ∀ {c s c' s' : ℕ}, c < 2 → c' < 2 → ¬ (c = c' ∧ s = s') → Disjoint (R c s) (R c' s'))
    (hcov : ((Finset.univ : Finset (Fin 2)).biUnion fun c => (Finset.univ : Finset (Fin 16)).biUnion fun s => R c.val s.val) = Finset.univ) :
    (ℓ ↦{fullShare} f : sProp 𝕄)
      = bigSep (Finset.univ : Finset (Fin 2)) fun c => bigSep (Finset.univ : Finset (Fin 16)) fun s => ℓ ↦[R c.val s.val]{fullShare} f := by
  rw [← hcov, pointsTo_biUnion (ℓ := ℓ) Finset.univ (fun c : Fin 2 => (Finset.univ : Finset (Fin 16)).biUnion fun s => R c.val s.val) ?_]
  · refine bigSep_congr fun c _ => ?_
    exact pointsTo_biUnion (ℓ := ℓ) Finset.univ (fun s : Fin 16 => R c.val s.val) fun s _ s' _ h =>
      hd c.isLt c.isLt fun e => h (Fin.ext e.2)
  · intro c _ c' _ h
    refine (Finset.disjoint_biUnion_left _ _ _).2 fun s _ => (Finset.disjoint_biUnion_right _ _ _).2 fun s' _ => ?_
    exact hd c.isLt c'.isLt fun e => h (Fin.ext e.1)

/-- Holding the tokens is holding every tile's row of them. -/
theorem xo_split (d : Dev nD) (f : Buf (Elt F) (xLoc d)) :
    (xLoc d ↦{fullShare} f : sProp 𝕄)
      = bigSep (Finset.univ : Finset (Fin 2)) fun c => bigSep (Finset.univ : Finset (Fin 16)) fun s => xLoc d ↦[rowSet c.val s.val]{fullShare} f :=
  split_parts (xLoc d) f rowSet rowSet_disj rowSet_cover
/-- Holding the packed array is holding every tile's row of it. -/
theorem o_split (d : Dev nD) (f : Buf (Elt F) (oLoc d)) :
    (oLoc d ↦{fullShare} f : sProp 𝕄)
      = bigSep (Finset.univ : Finset (Fin 2)) fun c => bigSep (Finset.univ : Finset (Fin 16)) fun s => oLoc d ↦[rowSet c.val s.val]{fullShare} f :=
  split_parts (oLoc d) f rowSet rowSet_disj rowSet_cover
/-- Holding the counts is holding every tile's row of them. -/
theorem c_split (d : Dev nD) (f : Buf (Elt F) (cLoc d)) :
    (cLoc d ↦{fullShare} f : sProp 𝕄)
      = bigSep (Finset.univ : Finset (Fin 2)) fun c => bigSep (Finset.univ : Finset (Fin 16)) fun s => cLoc d ↦[cntSet c.val s.val]{fullShare} f :=
  split_parts (cLoc d) f cntSet cntSet_disj cntSet_cover

/-- What the call takes, and what it hands back. -/
theorem st0_eq (d : Dev nD) : (bigSep Finset.univ fun c : Fin ((K (F := F)).nCore 0) => (P m).st 0 d c)
    = iprop((xLoc d ↦{fullShare} m (xLoc d)) ∗ (oLoc d ↦{fullShare} m (oLoc d)) ∗ cLoc d ↦{fullShare} m (cLoc d)) := by
  show (bigSep (Finset.univ : Finset (Fin 2)) fun c => bigSep (Finset.univ : Finset (Fin 16)) fun s => goRes m d c.val s.val) = _
  rw [xo_split, o_split, c_split, ← bigSep_sep', ← bigSep_sep']
  refine bigSep_congr fun c _ => ?_
  rw [bigSep_sep', bigSep_sep']
/-- What the cores hand back is the three arrays whole: tokens unchanged, packed array, counts. -/
theorem dn0_eq (d : Dev nD) : (bigSep Finset.univ fun c : Fin ((K (F := F)).nCore 0) => (P m).dn 0 d c)
    = iprop((xLoc d ↦{fullShare} m (xLoc d)) ∗ (oLoc d ↦{fullShare} outBuf m d) ∗ cLoc d ↦{fullShare} cntBuf m d) := by
  show (bigSep (Finset.univ : Finset (Fin 2)) fun c => bigSep (Finset.univ : Finset (Fin 16)) fun s => tdRes m d c.val s.val) = _
  rw [xo_split, o_split, c_split, ← bigSep_sep', ← bigSep_sep']
  refine bigSep_congr fun c _ => ?_
  rw [bigSep_sep', bigSep_sep']

/-! ## The launch element: the handshakes' rounds; nothing of the kernel's own -/

/-- The ghost state the launch starts from. -/
def u₀ : UU := (initOf (K (F := F)).hsCells (K (F := F)).hsToks, 1)

omit [FloatOps F] in
/-- Nothing, many times over, is nothing. -/
theorem bigSep_emp' {I : Type} (s : Finset I) : (bigSep s fun _ => iprop(emp)) = (iprop(emp) : sProp 𝕄) := bigSep_emp_const s

/-- The launch's ghost state gives the handshakes theirs; the tiles ask for none. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The tokens, as a host operation names them. -/
abbrev x' : DevRef τ sig := Proc.devRef .tc (main_arg0 : Ref sig .tc)
/-- The packed array, as a host operation names it. -/
abbrev o' : DevRef τ sig := Proc.devRef .tc (main_v0_0 : Ref sig .tc)
/-- The counts, as a host operation names them. -/
abbrev c' : DevRef τ sig := Proc.devRef .tc (main_v0_1 : Ref sig .tc)
/-- The counts' first column, as a host operation names it. -/
abbrev s' : DevRef τ sig := Proc.devRef .tc (main_v1 : Ref sig .tc)
/-- The lengths, as a host operation names them. -/
abbrev r' : DevRef τ sig := Proc.devRef .tc (main_v2 : Ref sig .tc)
/-- The first column's location. -/
abbrev sLoc (d : Dev nD) : Loc nD τ sig := (SparseCore.T d).loc main_v1
/-- The lengths' location. -/
abbrev rLoc (d : Dev nD) : Loc nD τ sig := (SparseCore.T d).loc main_v2

/-- The two host operations: the counts' first column, and that column as a vector. -/
abbrev opSlice : HloOp τ sig (Elt F) := StableHlo.unary main_v0_1 main_v1
  ((extractStridedSlice S16x1 ![0, 0] · slices_S16x16_S16x1_0_0) : (⟨S16x16, .i32⟩ : BufTy).Contents (Elt F) → (⟨S16x1, .i32⟩ : BufTy).Contents (Elt F))
/-- The host's reshape of the first column to the lengths. -/
abbrev opShape : HloOp τ sig (Elt F) := StableHlo.reshape main_v1 main_v2 (rfl : (.i32 : EltTy) = .i32) shapeCasts_S16x1_S16

/-- The TensorCore's arrays, all unscoped. -/
abbrev S5 : Finset (DevRef τ sig) := {x', o', c', s', r'}

omit [FloatOps F] in
/-- Holding the host's five buffers is holding each of them. -/
theorem held_S5 (d : Dev nD) (W : Valuation τ sig (Elt F)) :
    (held (T d) S5 W : sProp 𝕄) = iprop((xLoc d ↦{fullShare} W x') ∗ (oLoc d ↦{fullShare} W o') ∗ (cLoc d ↦{fullShare} W c')
      ∗ (sLoc d ↦{fullShare} W s') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
/-- The buffers the host starts with are those five. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0_0) ∗ (cLoc d ↦{fullShare} W main_v0_1)
      ∗ (sLoc d ↦{fullShare} W main_v1) ∗ rLoc d ↦{fullShare} W main_v2) := by
  unfold unscopedBufs
  rw [show (Finset.univ.filter fun b : Ref sig .tc => ¬ b.isScoped) = {main_arg0, main_v0_0, main_v0_1, main_v1, main_v2} by decide,
    SparseCore.bigSep_insert' (by decide), SparseCore.bigSep_insert' (by decide), SparseCore.bigSep_insert' (by decide),
    SparseCore.bigSep_insert' (by decide), bigSep_singleton]

/-- The arrays after the call, after the first host operation, and after the second. -/
def V1 (d : Dev nD) : Valuation τ sig (Elt F) :=
  Function.update (Function.update (fun b => m (d, b)) o' (outBuf m d)) c' (cntBuf m d)
/-- What the five buffers hold after the slice. -/
def V2 (d : Dev nD) : Valuation τ sig (Elt F) := (opSlice (F := F)).result (V1 m d)
/-- What they hold after the reshape. -/
def V3 (d : Dev nD) : Valuation τ sig (Elt F) := (opShape (F := F)).result (V2 m d)

/-- After the launch the tokens are as given. -/
theorem V1_x (d : Dev nD) : V1 m d x' = m (xLoc d) :=
  (Function.update_of_ne (show x' ≠ c' by decide) _ _).trans (Function.update_of_ne (show x' ≠ o' by decide) _ _)
/-- After the launch the packed array is packed. -/
theorem V1_o (d : Dev nD) : V1 m d o' = outBuf m d :=
  (Function.update_of_ne (show o' ≠ c' by decide) _ _).trans (Function.update_self _ _ _)
/-- After the launch the counts are the counts. -/
theorem V1_c (d : Dev nD) : V1 m d c' = cntBuf m d := Function.update_self _ _ _
/-- The launch leaves the first column alone. -/
theorem V1_s (d : Dev nD) : V1 m d s' = m (sLoc d) :=
  (Function.update_of_ne (show s' ≠ c' by decide) _ _).trans (Function.update_of_ne (show s' ≠ o' by decide) _ _)
/-- The launch leaves the lengths alone. -/
theorem V1_r (d : Dev nD) : V1 m d r' = m (rLoc d) :=
  (Function.update_of_ne (show r' ≠ c' by decide) _ _).trans (Function.update_of_ne (show r' ≠ o' by decide) _ _)

/-- The slice and the reshape change only the first column and the lengths. -/
theorem V3_of_V1 (d : Dev nD) {b : DevRef τ sig} (hs : b ∉ ({s'} : Finset (DevRef τ sig))) (hr : b ∉ ({r'} : Finset (DevRef τ sig))) :
    V3 m d b = V1 m d b :=
  ((opShape (F := F)).result_of_not_mem (V2 m d) (b := b) hr).trans ((opSlice (F := F)).result_of_not_mem (V1 m d) (b := b) hs)

/-- After the slice the first column is the counts' first column. -/
theorem V2_s (d : Dev nD) : V2 m d s' = extractStridedSlice S16x1 ![0, 0] (cntBuf m d : IVec S16x16 32) slices_S16x16_S16x1_0_0 := by
  rw [← V1_c]
  exact ((opSlice (F := F)).result_of_mem (V1 m d) (b := s') (Finset.mem_singleton_self _)).trans rfl

/-- The second result: each row's count. -/
theorem V3_r (d : Dev nD) : V3 m d r' = lengths (inp m d) := by
  refine (((opShape (F := F)).result_of_mem (V2 m d) (b := r') (Finset.mem_singleton_self _)).trans
    (show _ = shapeCast S16 (V2 m d s' : IVec S16x1 32) shapeCasts_S16x1_S16 from rfl)).trans ?_
  rw [V2_s]
  funext i
  refine (shapeCast_apply (s := S16x1) (t := S16) _ shapeCasts_S16x1_S16 i (fun | 0 => i 0 | 1 => (0 : Fin 1)) ?_).trans ?_
  · rw [Shape.rowMajor_val_two, Shape.rowMajor_val_one]; simp
  · show countOf (inp m d) _ = countOf (inp m d) (i 0)
    exact congrArg (countOf (inp m d)) (Fin.ext (Nat.zero_add _))

/-- The slice touches only the five buffers. -/
theorem hSlice : (opSlice (F := F)).bufs ⊆ S5 := show ({c', s'} : Finset (DevRef τ sig)) ⊆ S5 by decide
/-- The reshape touches only the five buffers. -/
theorem hShape : (opShape (F := F)).bufs ⊆ S5 := show ({s', r'} : Finset (DevRef τ sig)) ⊆ S5 by decide

/-- What @main leaves the claim: the tokens as at the launch, and the two results. -/
abbrev FIN (d : Dev nD) : sProp 𝕄 :=
  iprop((xLoc d ↦{fullShare} m (xLoc d)) ∗ (oLoc d ↦{fullShare} outBuf m d) ∗ rLoc d ↦{fullShare} (lengths (inp m d) : Buf (Elt F) (rLoc d)))

/-- In the end the host holds the five buffers with the tokens as given, the packed array, and the lengths. -/
theorem held_V3 (d : Dev nD) : (held (T d) S5 ((opShape (F := F)).result (V2 m d)) : sProp 𝕄) = iprop((xLoc d ↦{fullShare} m (xLoc d)) ∗ (oLoc d ↦{fullShare} outBuf m d)
    ∗ (cLoc d ↦{fullShare} V3 m d c') ∗ (sLoc d ↦{fullShare} V3 m d s') ∗ rLoc d ↦{fullShare} (lengths (inp m d) : Buf (Elt F) (rLoc d))) := by
  show (held (T d) S5 (V3 m d) : sProp 𝕄) = _
  rw [held_S5, V3_r, V3_of_V1 m d (b := x') (by decide) (by decide), V3_of_V1 m d (b := o') (by decide) (by decide), V1_x, V1_o]

/-- @main on device `d`'s TensorCore: the call, from the tokens and the two arrays it writes, then the two host
    operations; the tokens and the results kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, Hc, Hs, Hr⟩, Hts, -⟩, -⟩
  iapply ((K (F := F)).wp_run (D (F := F)) 𝒱 (EH := EH) (P := P m) κ d 0) $$ [Hst Hx Ho Hc Hb Hs Hr Hts]
  isplitr; · iexact Hctx
  isplitl [Hst]; · iexact Hst
  isplitl [Hx Ho Hc]
  · rw [st0_eq]
    isplitl [Hx]; · iexact Hx
    isplitl [Ho]; · iexact Ho
    iexact Hc
  iintro ⟨Hst, Hdn⟩
  ihave Hdn' := (Entails.of_eq (dn0_eq m d)) $$ Hdn
  icases Hdn' with ⟨Hx, Ho, Hc⟩
  iapply (wp_hlo_within 𝒱 (SparseCore.T d) none Set.univ (op := opSlice) (S := S5) hSlice (V := V1 m d)) $$ [Hb Hx Ho Hc Hs Hr]
  · isplitl [Hb]; · iexact Hb
    rw [held_S5, V1_x, V1_o, V1_c, V1_s, V1_r]
    isplitl [Hx]; · iexact Hx
    isplitl [Ho]; · iexact Ho
    isplitl [Hc]; · iexact Hc
    isplitl [Hs]; · iexact Hs
    iexact Hr
  iintro ⟨Hb, Hheld⟩
  rw [wp_ret]; imodintro
  iapply (wp_hlo_within 𝒱 (SparseCore.T d) none Set.univ (op := opShape) (S := S5) hShape (V := V2 m d)) $$ [Hb Hheld]
  · isplitl [Hb]; · iexact Hb
    iexact Hheld
  iintro ⟨Hb, Hheld⟩
  ihave Hh := (Entails.of_eq (held_V3 (F := F) m d)) $$ Hheld
  icases Hh with ⟨Hx, Ho, -, -, Hr⟩
  rw [wp_ret]; imodintro; imodintro
  isplitl [Hst]; · iexact Hst
  isplitr [Hb Hts]
  · isplitl [Hx]; · iexact Hx
    isplitl [Ho]; · iexact Ho
    iexact Hr
  isplitl [Hb] <;> iassumption

/-- The final memory: the packed rows, the counts, and the tokens unchanged. -/
def fq (d : Dev nD) (s' : Phys nD τ sig (Elt F)) : Prop :=
  s'.mem.mem (oLoc d) = outBuf m d ∧ s'.mem.mem (rLoc d) = (lengths (inp m d) : Buf (Elt F) (rLoc d)) ∧ s'.mem.mem (xLoc d) = m (xLoc d)

set_option maxRecDepth 16384 in
/-- Holding the tokens, the packed array and the lengths, the final memory has them. -/
theorem hfin (d : Dev nD) (s' : Phys nD τ sig (Elt F)) : iprop(FIN m d ∗ SI s') ⊢ (⌜fq m d s'⌝ : sProp 𝕄) := by
  iintro ⟨⟨Hx, Ho, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := oLoc d) (I := Finset.univ) (q := fullShare) (f := outBuf m d))) $$ [HSI Ho]
  · isplitl [HSI] <;> iassumption
  icases H with ⟨%h2, HSI, -⟩
  ihave H := (SI_pointsTo_agree (st := s') (ℓ := rLoc d) (I := Finset.univ) (q := fullShare) (f := lengths (inp m d))) $$ [HSI Hr]
  · isplitl [HSI] <;> iassumption
  icases H with %h3
  ipureintro
  exact ⟨funext fun i => h2 i (Finset.mem_univ i), funext fun i => h3 i (Finset.mem_univ i), funext fun i => h1 i (Finset.mem_univ i)⟩

/-! ## The program's run -/

/-- On every device the packed array, the lengths, and the tokens as given; every semaphore at zero. -/
def QC : PUnit × MemSt nD τ sig (Elt F) → Prop := fun r =>
  (∀ c : Dev nD, r.2.mem (oLoc c) = outBuf m c ∧ r.2.mem (rLoc c) = (lengths (inp m c) : Buf (Elt F) (rLoc c)) ∧ r.2.mem (xLoc c) = m (xLoc c))
    ∧ r.2.sem = fun _ => 0

/-- The program runs; at the end the first result is the packed rows, the second the counts, the tokens are unchanged
    and every semaphore is at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.IdealRun

end
-- ==== Proof.RefParts.lean ====
/- The reference's steps named one by one as functions of the token array: the tokens with the invalid
   ones replaced, which are valid, the stable sort's order, and the array taken in that order. -/
module

public import proofs.«01_k».proof.Proof.Result
public import proofs.«01_k».proof.Proof.Gen.ReferenceIdeal

@[expose] public section

noncomputable section

namespace Cert.Proof.RefValue

open Idealize.ShloMosaic Cert.ReferenceIdeal Cert.ReferenceIdeal.Gen Cert.Proof.Pack

/-- One word at every index of the array. -/
abbrev fill (w : BitVec 32) : IVec S16x4096 32 := broadcastInDim S16x4096 ![] bcast_S_S16x4096 (constantI S_ 32 w)

/-- The tokens, with `-1` for each token of the vocabulary's size or more. -/
def idx (X : IVec S16x4096 32) : IVec S16x4096 32 := select (cmpi .slt X (fill 100000#32)) X (fill 4294967295#32)
/-- Which tokens are valid. -/
def val (X : IVec S16x4096 32) : IVec S16x4096 1 := cmpi .sge (idx X) (fill 0#32)
/-- How many tokens of each row are valid. -/
def len (X : IVec S16x4096 32) : IVec S16 32 :=
  Host.reduce IntOp.addi (extui 32 (val X) natLt_1_32) (constantI S_ 32 0#32) reducesTo_S16x4096_S16_d1 h_S_
/-- The stable argument sort of each row, valid tokens first. -/
def ord (X : IVec S16x4096 32) : IVec S16x4096 32 :=
  (Host.sort2 S16x4096 1 comparator_i1_i32_d1 (noti (val X)) (iotaInDim S16x4096 32 1)).2
/-- The same with 4096 added to negative positions. -/
def wrapped (X : IVec S16x4096 32) : IVec S16x4096 32 :=
  select (cmpi .slt (ord X) (fill 0#32)) (addi (ord X) (fill 4096#32)) (ord X)
/-- The same as a table of start indices. -/
def starts (X : IVec S16x4096 32) : IVec S16x4096x1 32 := shapeCast _ (wrapped X) shapeCasts_S16x4096_S16x4096x1
/-- Whether each start index lies inside its row. -/
def inside (X : IVec S16x4096 32) : IVec S16x4096x1 1 :=
  andi (cmpi .sge (starts X) (broadcastInDim S16x4096x1 ![] bcast_S_S16x4096x1 (constantI S_ 32 0#32)))
    (cmpi .sle (starts X) (broadcastInDim S16x4096x1 ![0, 1, 2] bcast_S1x1x1_S16x4096x1_0_1_2
      (broadcastInDim S1x1x1 ![2] bcast_S1_S1x1x1_2 (constantI S1 32 4095#32))))
/-- The tokens of each row in the sort's order. -/
def taken (X : IVec S16x4096 32) : IVec S16x4096 32 :=
  select (Host.reduce IntOp.andi (inside X) (constantI S_ 1 1#1) reducesTo_S16x4096x1_S16x4096_d2 h_S_)
    (Host.gather gather_S16x4096_S16x4096x1_S16x4096_n_1_0_0_1_2_11 (idx X) (starts X)) (fill 2147483648#32)
/-- Whether each place of each row lies below the row's count of valid tokens. -/
def below (X : IVec S16x4096 32) : IVec S16x4096 1 :=
  cmpi .slt (broadcastInDim S16x4096 ![0, 1] bcast_S1x4096_S16x4096_0_1
      (broadcastInDim S1x4096 ![1] bcast_S4096_S1x4096_1 (iotaInDim S4096 32 0)))
    (broadcastInDim S16x4096 ![0, 1] bcast_S16x1_S16x4096_0_1 (broadcastInDim S16x1 ![0] bcast_S16_S16x1_0 (len X)))
/-- The reference's array. -/
def out (X : IVec S16x4096 32) : IVec S16x4096 32 := select (below X) (taken X) (fill 4294967295#32)

/-! ## Words of small numbers -/

/-- A word of a number below 2^31, read as a signed integer, is the number. -/
theorem toInt_small {n : ℕ} (h : n < 2147483648) : (BitVec.ofNat 32 n).toInt = n := by
  rw [BitVec.toInt_eq_toNat_cond, BitVec.toNat_ofNat, Nat.mod_eq_of_lt (by omega), if_pos (by omega)]

/-- Words of numbers below 2^31 compare as the numbers. -/
theorem slt_small {a b : ℕ} (ha : a < 2147483648) (hb : b < 2147483648) :
    IntOp.cmpi .slt (BitVec.ofNat 32 a) (BitVec.ofNat 32 b) = if a < b then 1#1 else 0#1 := by
  simp only [IntOp.cmpi, BitVec.slt, toInt_small ha, toInt_small hb]
  by_cases h : a < b <;> simp [h]

/-! ## The first steps read at an index -/

/-- A token below the vocabulary's size keeps its value. -/
theorem idx_valid (X : IVec S16x4096 32) (i : S16x4096.Idx) (h : Valid (X i)) : idx X i = X i := by
  have hb : IntOp.cmpi .slt (X i) 100000#32 = 1#1 := by
    have h2 : (100000#32 : BitVec 32).toInt = 100000 := by decide
    simp [IntOp.cmpi, BitVec.slt, h2, h.2]
  show Scalar.select (IntOp.cmpi .slt (X i) 100000#32) (X i) 4294967295#32 = X i
  rw [hb]; rfl

/-- The reference's validity bit is 1 exactly at valid tokens. -/
theorem val_apply (X : IVec S16x4096 32) (i : S16x4096.Idx) : val X i = if Valid (X i) then 1#1 else 0#1 := by
  have h1 : (0#32 : BitVec 32).toInt = 0 := by decide
  have h2 : (100000#32 : BitVec 32).toInt = 100000 := by decide
  have h3 : (4294967295#32 : BitVec 32).toInt = -1 := by decide
  show IntOp.cmpi .sge (Scalar.select (IntOp.cmpi .slt (X i) 100000#32) (X i) 4294967295#32) 0#32 = _
  by_cases hb : (X i).toInt < 100000
  · have e : IntOp.cmpi .slt (X i) 100000#32 = 1#1 := by simp [IntOp.cmpi, BitVec.slt, h2, hb]
    rw [e, show Scalar.select 1#1 (X i) 4294967295#32 = X i from rfl]
    simp only [IntOp.cmpi, BitVec.sle, h1, Valid, hb, and_true]
    by_cases ha : (0 : ℤ) ≤ (X i).toInt <;> simp [ha]
  · have e : IntOp.cmpi .slt (X i) 100000#32 = 0#1 := by simp [IntOp.cmpi, BitVec.slt, h2, hb]
    rw [e, if_neg (fun h => hb h.2)]
    rfl

end Cert.Proof.RefValue

end
-- ==== Proof.Order.lean ====
/- Where a stable sort of a row by "valid tokens first" puts the valid tokens: the one of rank `j` stands
   at place `j`. -/
module

public import proofs.«01_k».proof.Proof.Pack
public import Idealize.ShloMosaic.Lib.SortFacts
public import Idealize.ShloMosaic.Lib.PlanTiles.StableSort

@[expose] public section

namespace Cert.Proof.Pack

open Idealize.ShloMosaic

/-- The sort's key at a position of the row: 1 at a valid token and 0 elsewhere. -/
def key (x : ℕ → BitVec 32) (k : Fin 4096) : ℕ := if Valid (x k.val) then 1 else 0

/-- One position goes before another when its key is greater. -/
def ahead (x : ℕ → BitVec 32) (a b : Fin 4096) : Bool := decide (key x b < key x a)

/-- A stable sort of `N` positions by descending key: of two places of the result, the earlier one holds
    the greater key, or an equal key from an earlier position. -/
theorem descending_sorted {N : ℕ} (G : Fin N → ℕ) {i j : Fin N} (h : i < j) :
    PlanTiles.Lex G (· < ·) (sortedFrom (fun a b => decide (G b < G a)) i)
      (sortedFrom (fun a b => decide (G b < G a)) j) := by
  have hp : (sortPositions N fun a b => decide (G b < G a)).Pairwise (PlanTiles.Lex G (· < ·)) :=
    PlanTiles.pairwise_stableSort_lex G (· < ·) (List.finRange N) (List.pairwise_lt_finRange N)
  unfold sortedFrom
  exact List.pairwise_iff_get.1 hp _ _ h

/-- Of two places of the sorted row, the earlier one holds the greater key, or an equal key from an
    earlier position. -/
theorem ahead_sorted (x : ℕ → BitVec 32) {i j : Fin 4096} (h : i < j) :
    key x (sortedFrom (ahead x) j) < key x (sortedFrom (ahead x) i)
      ∨ (key x (sortedFrom (ahead x) i) = key x (sortedFrom (ahead x) j)
        ∧ sortedFrom (ahead x) i < sortedFrom (ahead x) j) := descending_sorted (key x) h

/-- A valid token's position has key 1. -/
theorem key_valid (x : ℕ → BitVec 32) {k : Fin 4096} (h : Valid (x k.val)) : key x k = 1 := if_pos h

/-- A key is at most 1. -/
theorem key_le (x : ℕ → BitVec 32) (k : Fin 4096) : key x k ≤ 1 := by unfold key; split <;> omega

/-- A key of 1 belongs to a valid token. -/
theorem valid_of_key (x : ℕ → BitVec 32) {k : Fin 4096} (h : 1 ≤ key x k) : Valid (x k.val) := by
  by_contra hv; unfold key at h; rw [if_neg hv] at h; omega

/-- The places before the one that holds the valid token of position `k` hold exactly the valid tokens of
    the positions before `k`. -/
theorem before_place (x : ℕ → BitVec 32) (j : Fin 4096) (hv : Valid (x (sortedFrom (ahead x) j).val))
    (i : Fin 4096) :
    i < j ↔ Valid (x (sortedFrom (ahead x) i).val) ∧ sortedFrom (ahead x) i < sortedFrom (ahead x) j := by
  have hj := key_valid x hv
  constructor
  · intro h
    have hi := key_le x (sortedFrom (ahead x) i)
    rcases ahead_sorted x h with h1 | ⟨h1, h2⟩
    · omega
    · exact ⟨valid_of_key x (by omega), h2⟩
  · rintro ⟨h1, h2⟩
    have hi := key_valid x h1
    rcases lt_trichotomy i j with h | h | h
    · exact h
    · rw [h] at h2; exact absurd h2 (lt_irrefl _)
    · rcases ahead_sorted x h with h3 | ⟨-, h3⟩
      · omega
      · exact absurd h2 (lt_asymm h3)

/-- The place that holds a valid token is the token's rank. -/
theorem place_eq_rank (x : ℕ → BitVec 32) (j : Fin 4096) (hv : Valid (x (sortedFrom (ahead x) j).val)) :
    rank x (sortedFrom (ahead x) j).val = j.val := by
  rw [rank, Nat.count_eq_card_filter_range, ← Fin.card_Iio j]
  symm
  refine Finset.card_bij (fun i _ => (sortedFrom (ahead x) i).val) ?_ ?_ ?_
  · intro i hi
    obtain ⟨h1, h2⟩ := (before_place x j hv i).1 (Finset.mem_Iio.1 hi)
    exact Finset.mem_filter.2 ⟨Finset.mem_range.2 h2, h1⟩
  · intro a _ b _ h
    exact sortedFrom_injective _ (Fin.ext h)
  · intro k hk
    obtain ⟨h1, h2⟩ := Finset.mem_filter.1 hk
    have hlt := lt_trans (Finset.mem_range.1 h1) (sortedFrom (ahead x) j).isLt
    obtain ⟨i, hi⟩ := sortedFrom_surjective (ahead x) ⟨k, hlt⟩
    refine ⟨i, Finset.mem_Iio.2 ((before_place x j hv i).2 ?_), by rw [hi]⟩
    rw [hi]
    exact ⟨h2, Finset.mem_range.1 h1⟩

/-- Below the number of valid tokens, the sorted row holds at place `j` what the packed row holds. -/
theorem sorted_eq_packed (x : ℕ → BitVec 32) (j : Fin 4096) (h : j.val < rank x 4096) :
    Valid (x (sortedFrom (ahead x) j).val) ∧ x (sortedFrom (ahead x) j).val = packed x j.val := by
  obtain ⟨k, hk, hv, hr⟩ := exists_rank x h
  obtain ⟨i, hi⟩ := sortedFrom_surjective (ahead x) ⟨k, hk⟩
  have hvi : Valid (x (sortedFrom (ahead x) i).val) := by rw [hi]; exact hv
  have hij : i = j := by
    have := place_eq_rank x i hvi
    rw [hi] at this
    exact Fin.ext (this.symm.trans hr)
  subst hij
  rw [hi]
  exact ⟨hv, by rw [← hr]; exact (packed_rank x hk hv).symm⟩

end Cert.Proof.Pack
-- ==== Proof.RefSort.lean ====
/- The reference's counts and the order of its stable sort, read at an index. -/
module

public import proofs.«01_k».proof.Proof.RefParts
public import proofs.«01_k».proof.Proof.Order
public import Idealize.ShloMosaic.Lib.StableHlo.Predicate

@[expose] public section

noncomputable section

namespace Cert.Proof.RefValue

open Idealize.ShloMosaic Idealize.ShloMosaic.StableHlo.Predicate Cert.ReferenceIdeal Cert.ReferenceIdeal.Gen Cert.Proof.Pack

/-- The number of a row's places that hold valid tokens is the row's rank at its end. -/
theorem card_valid (x : ℕ → BitVec 32) :
    (Finset.univ.filter fun q : Fin 4096 => Valid (x q.val)).card = rank x 4096 := by
  rw [rank, Nat.count_eq_card_filter_range]
  refine Finset.card_bij (fun q _ => q.val) ?_ ?_ ?_
  · intro q hq
    exact Finset.mem_filter.2 ⟨Finset.mem_range.2 q.isLt, (Finset.mem_filter.1 hq).2⟩
  · intro a _ b _ h
    exact Fin.ext h
  · intro k hk
    obtain ⟨h1, h2⟩ := Finset.mem_filter.1 hk
    exact ⟨⟨k, Finset.mem_range.1 h1⟩, Finset.mem_filter.2 ⟨Finset.mem_univ _, h2⟩, rfl⟩

/-- The validity bit of place `q` of row `r` is 1 exactly if the row's token `q` is valid. -/
theorem val_cell (X : IVec S16x4096 32) (r : Fin 16) (q : Fin 4096) :
    val X (cell r q) = if Valid (tokens X r q.val) then 1#1 else 0#1 := by
  rw [val_apply, tokens_lt X r q.isLt]

/-- The same as an equivalence. -/
theorem val_one (X : IVec S16x4096 32) (r : Fin 16) (q : Fin 4096) :
    val X (cell r q) = 1#1 ↔ Valid (tokens X r q.val) := by
  rw [val_cell]; split <;> simp_all

/-- The reference's counts are the lengths. -/
theorem len_eq (X : IVec S16x4096 32) : len X = lengths X := by
  funext j
  refine BitVec.eq_of_toNat_eq ?_
  have h := toNat_reduce_count_cols (n := 16) (m := 4096) (by omega) (val X) natLt_1_32
    reducesTo_S16x4096_S16_d1 h_S_ j
  refine h.trans ?_
  have hc : ∀ q : Fin 4096, val X (ij (j 0) q) = 1#1 ↔ Valid (tokens X (j 0) q.val) := fun q =>
    (iff_of_eq (congrArg (val X · = 1#1) (eq_cell (ij (j 0) q)))).trans (val_one X (j 0) q)
  rw [Finset.filter_congr (fun q _ => hc q), card_valid]
  have hr := rank_le (tokens X (j 0)) 4096
  show _ = (BitVec.ofNat 32 (rank (tokens X (j 0)) 4096)).toNat
  rw [BitVec.toNat_ofNat, Nat.mod_eq_of_lt (by omega)]

/-- A two-operand sort along the rows of an array, its second operand read at place `j` of row `r`: that
    operand at the place of row `r` the row's own order sends to `j`. -/
theorem sort_rows {R N : ℕ} {α β : Type} (cmp : α × β → α × β → BitVec 1) (x : (⟨2, ![R, N]⟩ : Shape).Idx → α)
    (y : (⟨2, ![R, N]⟩ : Shape).Idx → β) (r : Fin R) (j : Fin N) (before : Fin N → Fin N → Bool)
    (h : ∀ a b, (cmp (x (ij r a), y (ij r a)) (x (ij r b), y (ij r b)) == 1#1) = before a b) :
    (Host.sort2 ⟨2, ![R, N]⟩ 1 cmp x y).2 (ij r j) = y (ij r (sortedFrom before j)) := by
  have hal : ∀ k : Fin N, Shape.Idx.along (s := ⟨2, ![R, N]⟩) (ij r j) (1 : Fin 2) k = ij r k := fun k => by
    funext a
    match a with
    | ⟨0, _⟩ => rfl
    | ⟨1, _⟩ => rfl
  have hb : (fun k k' : Fin N => cmp
      (x (Shape.Idx.along (s := ⟨2, ![R, N]⟩) (ij r j) (1 : Fin 2) k),
        y (Shape.Idx.along (s := ⟨2, ![R, N]⟩) (ij r j) (1 : Fin 2) k))
      (x (Shape.Idx.along (s := ⟨2, ![R, N]⟩) (ij r j) (1 : Fin 2) k'),
        y (Shape.Idx.along (s := ⟨2, ![R, N]⟩) (ij r j) (1 : Fin 2) k')) == 1#1) = before := by
    funext a b
    rw [hal, hal]
    exact h a b
  have hd : 1 < (⟨2, ![R, N]⟩ : Shape).rank := Nat.lt_succ_self 1
  unfold Host.sort2
  rw [dif_pos hd]
  refine (congrArg y (hal _)).trans ?_
  exact congrArg (fun f => y (ij r (sortedFrom f j))) hb

/-- The sort's comparison of two places of a row puts the valid token first. -/
theorem compare_cell (X : IVec S16x4096 32) (r : Fin 16) (a b : Fin 4096) :
    (IntOp.cmpi .ult (~~~ val X (cell r a)) (~~~ val X (cell r b)) == 1#1) = ahead (tokens X r) a b := by
  rw [val_cell, val_cell]
  unfold ahead key
  by_cases ha : Valid (tokens X r a.val) <;> by_cases hb : Valid (tokens X r b.val) <;> simp only [ha, hb, if_true, if_false] <;> decide

/-- The sort's order at place `j` of row `r`, as a word. -/
theorem ord_cell (X : IVec S16x4096 32) (r : Fin 16) (j : Fin 4096) :
    ord X (cell r j) = BitVec.ofNat 32 (sortedFrom (ahead (tokens X r)) j).val := by
  have hc : ∀ a : Fin 4096, ij r a = cell r a := fun a => eq_cell (ij r a)
  have h := sort_rows comparator_i1_i32_d1 (noti (val X)) (iotaInDim S16x4096 32 1) r j (ahead (tokens X r))
    (fun a b => by rw [hc, hc]; exact compare_cell X r a b)
  rw [hc] at h
  exact h

end Cert.Proof.RefValue

end
-- ==== Proof.RefTake.lean ====
/- The reference's take along each row, read at an index, and the reference's array. -/
module

public import proofs.«01_k».proof.Proof.RefSort
public import Idealize.ShloMosaic.Lib.ReduceAll
public import Idealize.ShloMosaic.Lib.Pipeline.Value

@[expose] public section

noncomputable section

namespace Cert.Proof.RefValue

open Idealize.ShloMosaic Cert.ReferenceIdeal Cert.ReferenceIdeal.Gen Cert.Proof.Pack

/-- Where its bit is 1 a selection holds its first operand. -/
theorem select_one {s : Shape} {α : Type} {c : IVec s 1} (a b : s.Idx → α) {i : s.Idx} (h : c i = 1#1) :
    select c a b i = a i := by
  show Scalar.select (c i) (a i) (b i) = a i
  rw [h]; rfl

/-- Where its bit is 0 a selection holds its second operand. -/
theorem select_zero {s : Shape} {α : Type} {c : IVec s 1} (a b : s.Idx → α) {i : s.Idx} (h : c i = 0#1) :
    select c a b i = b i := by
  show Scalar.select (c i) (a i) (b i) = b i
  rw [h]; rfl

/-- A comparison of two arrays at an index compares the words they hold there. -/
theorem cmpi_at {s : Shape} {w : ℕ} {p : CmpIPredicate} {a b : IVec s w} {i : s.Idx} {u v : BitVec w}
    (ha : a i = u) (hb : b i = v) : cmpi p a b i = IntOp.cmpi p u v := by
  subst ha hb; rfl

/-- A row's token by its place. -/
theorem tokens_at (X : IVec S16x4096 32) (r : Fin 16) (k : Fin 4096) : tokens X r k.val = X (cell r k) :=
  tokens_lt X r k.isLt

/-- The place in row `r` of the token the sort puts at place `j`. -/
def source (X : IVec S16x4096 32) (r : Fin 16) (j : Fin 4096) : Fin 4096 := sortedFrom (ahead (tokens X r)) j

/-- No position of the order is negative, so none is wrapped. -/
theorem wrapped_cell (X : IVec S16x4096 32) (r : Fin 16) (j : Fin 4096) :
    wrapped X (cell r j) = BitVec.ofNat 32 (source X r j).val := by
  have h : IntOp.cmpi .slt (ord X (cell r j)) 0#32 = 0#1 := by
    rw [ord_cell]
    have hlt := (sortedFrom (ahead (tokens X r)) j).isLt
    exact (slt_small (b := 0) (by omega) (by omega)).trans (if_neg (Nat.not_lt_zero _))
  exact (select_zero _ _ (c := cmpi .slt (ord X) (fill 0#32)) (i := cell r j) h).trans (ord_cell X r j)

/-- The index of row `r`, place `j` in the table of start indices. -/
def slot (r : Fin 16) (j : Fin 4096) : S16x4096x1.Idx := fun | 0 => r | 1 => j | 2 => (0 : Fin 1)

/-- Every index of the table is its row's and place's. -/
theorem eq_slot (i : S16x4096x1.Idx) : i = slot (i 0) (i 1) := by
  funext a
  match a with
  | 0 => rfl
  | 1 => rfl
  | 2 => exact Subsingleton.elim (α := Fin 1) _ _

/-- The start index at row `r`, place `j`. -/
theorem starts_slot (X : IVec S16x4096 32) (r : Fin 16) (j : Fin 4096) :
    starts X (slot r j) = BitVec.ofNat 32 (source X r j).val := by
  rw [← wrapped_cell]
  refine shapeCast_apply (s := S16x4096) (t := S16x4096x1) (wrapped X) _ (slot r j) (cell r j) ?_
  rw [Shape.rowMajor_val_two, Shape.rowMajor_val_three]
  show r.val * 4096 + j.val = (r.val * 4096 + j.val) * 1 + 0
  omega

/-- Every start index lies inside its row. -/
theorem inside_slot (X : IVec S16x4096 32) (r : Fin 16) (j : Fin 4096) : inside X (slot r j) = 1#1 := by
  show IntOp.andi (IntOp.cmpi .sge (starts X (slot r j)) 0#32) (IntOp.cmpi .sle (starts X (slot r j)) 4095#32) = 1#1
  rw [starts_slot]
  have hlt := (source X r j).isLt
  have h0 : (0#32 : BitVec 32).toInt = 0 := by decide
  have h1 : (4095#32 : BitVec 32).toInt = 4095 := by decide
  have e0 : IntOp.cmpi .sge (BitVec.ofNat 32 (source X r j).val) 0#32 = 1#1 := by
    simp only [IntOp.cmpi, BitVec.sle, toInt_small (show (source X r j).val < 2147483648 by omega), h0]
    rw [decide_eq_true (by omega)]; rfl
  have e1 : IntOp.cmpi .sle (BitVec.ofNat 32 (source X r j).val) 4095#32 = 1#1 := by
    simp only [IntOp.cmpi, BitVec.sle, toInt_small (show (source X r j).val < 2147483648 by omega), h1]
    rw [decide_eq_true (by omega)]; rfl
  rw [e0, e1]
  rfl

/-- The same at every index of the table. -/
theorem inside_apply (X : IVec S16x4096 32) (i : S16x4096x1.Idx) : inside X i = 1#1 :=
  (congrArg (inside X) (eq_slot i)).trans (inside_slot X (i 0) (i 1))

/-- The gather at row `r`, place `j`: the operand's row `r` at the place the start index names. -/
theorem gather_cell (x : IVec S16x4096 32) (st : IVec S16x4096x1 32) (r : Fin 16) (j k : Fin 4096)
    (h : st (slot r j) = BitVec.ofNat 32 k.val) :
    Host.gather gather_S16x4096_S16x4096x1_S16x4096_n_1_0_0_1_2_11 x st (cell r j) = x (cell r k) := by
  set d := gather_S16x4096_S16x4096x1_S16x4096_n_1_0_0_1_2_11 with hd
  unfold Host.gather
  congr 1
  funext a
  refine Fin.ext ?_
  show d.start (cell r j) st a + d.batchCoord (cell r j) a + d.offCoord (cell r j) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | 1 =>
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    have hm : (1 : Fin 2) ∈ d.startIndexMap := List.mem_singleton.mpr rfl
    rw [dif_pos hm]
    have hsi : d.siIdx (cell r j) ⟨List.idxOf (1 : Fin 2) d.startIndexMap, List.idxOf_lt_length_iff.2 hm⟩ = slot r j := by
      funext b
      refine Fin.ext ?_
      match b with
      | 0 => rfl
      | 1 => rfl
      | 2 => rfl
    rw [hsi, h, toInt_small (by have := k.isLt; omega)]
    have hk := k.isLt
    show min ((k.val : ℤ)).toNat (4096 - 1) = k.val
    omega

/-- The tokens in the sort's order: at place `j` of row `r` the row's token from that place's source. -/
theorem taken_cell (X : IVec S16x4096 32) (r : Fin 16) (j : Fin 4096) :
    taken X (cell r j) = idx X (cell r (source X r j)) := by
  have hg : Host.reduce IntOp.andi (inside X) (constantI S_ 1 1#1) reducesTo_S16x4096x1_S16x4096_d2 h_S_ (cell r j) = 1#1 :=
    Host.reduce_andi_one _ _ _ _ _ rfl (inside_apply X)
  refine (select_one _ _ hg).trans ?_
  exact gather_cell (idx X) (starts X) r j _ (starts_slot X r j)

/-- Whether place `j` of row `r` lies below the row's count. -/
theorem below_cell (X : IVec S16x4096 32) (r : Fin 16) (j : Fin 4096) :
    below X (cell r j) = if j.val < rank (tokens X r) 4096 then 1#1 else 0#1 := by
  have hr := rank_le (tokens X r) 4096
  have hj := j.isLt
  have hlen : len X (lane r) = BitVec.ofNat 32 (rank (tokens X r) 4096) := by rw [len_eq]; rfl
  refine Eq.trans ?_ (slt_small (a := j.val) (b := rank (tokens X r) 4096) (by omega) (by omega))
  rw [← hlen]
  have hb : ∀ (u : IVec S16 32), broadcastInDim S16x4096 ![0, 1] bcast_S16x1_S16x4096_0_1
      (broadcastInDim S16x1 ![0] bcast_S16_S16x1_0 u) (cell r j) = u (lane r) := fun u => congrArg u (eq_lane _)
  have hi : broadcastInDim S16x4096 ![0, 1] bcast_S1x4096_S16x4096_0_1
      (broadcastInDim S1x4096 ![1] bcast_S4096_S1x4096_1 (iotaInDim S4096 32 0)) (cell r j) = BitVec.ofNat 32 j.val := rfl
  exact cmpi_at hi (hb (len X))

/-- The reference's array at row `r`, place `j`, holds what the packed array does. -/
theorem out_cell (X : IVec S16x4096 32) (r : Fin 16) (j : Fin 4096) : out X (cell r j) = packed (tokens X r) j.val := by
  have hb := below_cell X r j
  by_cases h : j.val < rank (tokens X r) 4096
  · rw [if_pos h] at hb
    obtain ⟨hv, he⟩ := sorted_eq_packed (tokens X r) j h
    have ht : tokens X r (source X r j).val = X (cell r (source X r j)) := tokens_at X r (source X r j)
    have hv' : Valid (X (cell r (source X r j))) := ht ▸ hv
    exact (select_one _ _ hb).trans ((taken_cell X r j).trans ((idx_valid X _ hv').trans (ht.symm.trans he)))
  · rw [if_neg h] at hb
    exact (select_zero _ _ hb).trans (packed_ge _ (Nat.le_of_not_lt h)).symm

/-- The reference's array is the packed array. -/
theorem out_eq (X : IVec S16x4096 32) : out X = packedArr X :=
  funext fun i => (congrArg (out X) (eq_cell i)).trans (out_cell X (i 0) (i 1))

end Cert.Proof.RefValue

end
-- ==== Proof.RefRun.lean ====
/- The reference's run: what its two results hold at the end, in terms of the tokens it is given. -/
module

public import proofs.«01_k».proof.Proof.RefTake
public import proofs.«01_k».proof.Proof.Gen.ReferenceIdeal.Run
public import Idealize.ShloMosaic.Lib.Quiescent

@[expose] public section

noncomputable section

namespace Cert.Proof.RefValue

open Idealize.ShloMosaic Idealize.SL.Sem Cert.ReferenceIdeal Cert.Proof.Pack

variable {F : FTy → Type} [FloatOps F] (m : (ℓ : Loc nD τ sig) → Buf (Elt F) ℓ) (ρ : Dev nD → PrngReg)

/-- The tokens device `c` is given. -/
abbrev given (c : Dev nD) : IVec S16x4096 32 := m ((c.tc : Thread nD τ).loc main_arg0)

set_option maxRecDepth 8192 in
/-- The first result is the reference's array of the tokens. -/
theorem first_eq (c : Dev nD) : Cert.ReferenceIdeal.Value.res_out0 m c = out (given m c) := by
  unfold Cert.ReferenceIdeal.Value.res_out0 Cert.ReferenceIdeal.Value.res_main_v16
  rfl

/-- The reference runs; at the end its first result is the packed array, its second the lengths, and the tokens are
    unchanged. -/
theorem run_packed : θ_run defs (onTc (τ := τ) (main (F := F))) ⟨m, fun _ => 0, ρ⟩ fun r => ∀ c : Dev nD,
    r.2.mem ((c.tc : Thread nD τ).loc main_v16) = packedArr (given m c)
      ∧ r.2.mem ((c.tc : Thread nD τ).loc main_v9) = lengths (given m c)
      ∧ r.2.mem ((c.tc : Thread nD τ).loc main_arg0) = m ((c.tc : Thread nD τ).loc main_arg0) :=
  (θ_run defs _ _).mono (fun _ h c => ⟨(h c).1.trans ((first_eq m c).trans (out_eq (given m c))),
    (h c).2.1.trans (len_eq (given m c)), (h c).2.2⟩) (Cert.ReferenceIdeal.Value.run m ρ)

/-- The reference runs; at the end the tokens are unchanged and every semaphore is at zero. -/
theorem run_quiescent : θ_run defs (onTc (τ := τ) (main (F := F))) ⟨m, fun _ => 0, ρ⟩ fun r =>
    (∀ c : Dev nD, r.2.mem ((c.tc : Thread nD τ).loc main_arg0) = m ((c.tc : Thread nD τ).loc main_arg0))
      ∧ r.2.sem = fun _ => 0 :=
  (θ_run defs _ _).mono (fun r h => ⟨fun c => (h c).2.2, sem_eq_zero_of_no_sems (by decide) r.2⟩) (run_packed m ρ)

end Cert.Proof.RefValue

end
-- ==== Proof.lean ====
/- The proof of the certificate's claims: the kernel at both readings of its floats, and the reference, run and leave
   their tokens unchanged and every semaphore at zero; the kernel and the reference end with equal results. -/
module

public import proofs.«01_k».proof.Defs
public import proofs.«01_k».proof.Proof.KernelLaunch
public import proofs.«01_k».proof.Proof.IdealLaunch
public import proofs.«01_k».proof.Proof.RefRun
public import Idealize.ShloMosaic.Adequacy
public import Idealize.ShloMosaic.Init

@[expose] public section

noncomputable section

namespace Cert.Proof

open Idealize.ShloMosaic Idealize.SL.Sem Cert.Proof.Pack

/-- The kernel's own text, run on machine words, ends with its tokens unchanged and every semaphore at zero. -/
theorem frame_kernel : Cert.quiescent_Kernel (hKernel := Cert.Kernel.Gen.facts) := fun m ρ _ =>
  (θ_run Cert.Kernel.defs _ _).mono (fun _ h => ⟨fun c => (h.1 c).2.2, h.2⟩) (Cert.Proof.KernelRun.run_main (F := Bits) m ρ)

/-- The same of its idealization. -/
theorem frame_ideal : Cert.quiescent_KernelIdeal (hKernelIdeal := Cert.KernelIdeal.Gen.facts) := fun m ρ _ =>
  (θ_run Cert.KernelIdeal.defs _ _).mono (fun _ h => ⟨fun c => (h.1 c).2.2, h.2⟩) (Cert.Proof.IdealRun.run_main (F := Ideal) m ρ)

/-- The same of the reference. -/
theorem frame_reference : Cert.quiescent_ReferenceIdeal (hReferenceIdeal := Cert.ReferenceIdeal.Gen.facts) := fun m ρ _ =>
  Cert.Proof.RefValue.run_quiescent (F := Ideal) m ρ

/-- From the same tokens the kernel and the reference both end with the packed array and the lengths. -/
theorem equal_results : Cert.algebraic_KernelIdeal_ReferenceIdeal (hKernelIdeal := Cert.KernelIdeal.Gen.facts)
    (hReferenceIdeal := Cert.ReferenceIdeal.Gen.facts) := fun m ρ m' ρ' _ heq => by
  refine ⟨fun c => Cert.Proof.IdealRun.outBuf m c, fun c => lengths (Cert.Proof.IdealRun.inp m c), ?_, ?_⟩
  · exact (θ_run Cert.KernelIdeal.defs _ _).mono (fun _ h => h.1) (Cert.Proof.IdealRun.run_main (F := Ideal) m ρ)
  · refine (θ_run Cert.ReferenceIdeal.defs _ _).mono (fun r h c => ?_) (Cert.Proof.RefValue.run_packed (F := Ideal) m' ρ')
    have e : Cert.Proof.RefValue.given m' c = Cert.Proof.IdealRun.inp m c := heq c
    exact ⟨(h c).1.trans (congrArg packedArr e), (h c).2.1.trans (congrArg lengths e), (h c).2.2⟩

/-- Every claim of the certificate. -/
theorem claim : Cert.Claim := ⟨Cert.Kernel.Gen.facts, Cert.KernelIdeal.Gen.facts, Cert.ReferenceIdeal.Gen.facts,
  frame_kernel, frame_ideal, frame_reference, trivial, equal_results⟩

end Cert.Proof

end
